-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 8192, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 8192, 4, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 8192, 4, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 512]⟩ ⟨3, ![2, 8192, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x4x64 : S_.BroadcastsInDim S2x256x4x64 (![] : Fin 0 → Fin S2x256x4x64.rank)

variable [Facts]

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S2x256x512 1 × IVec S512x256 1 × IVec S2x256x4x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x256x4x64 .f32 := Host.absf main_arg2
  let main_cst_1 : FVec F S_ .f32 := constant S_ .f32 0x7F800000#32
  let main_v7 : FVec F S2x256x4x64 .f32 := broadcastInDim S2x256x4x64 ![] bcast_S_S2x256x4x64 main_cst_1
  let main_v8 : IVec S2x256x4x64 1 := cmpf .olt main_v6 main_v7
  (main_v2, main_v5, main_v8)
-- ==== Pre_finite_scores_ReferenceIdeal.lean ====
abbrev S2x8192x512 : Shape := ⟨3, ![2, 8192, 512]⟩
abbrev S512x256 : Shape := ⟨2, ![512, 256]⟩
abbrev S2x8192x4x64 : Shape := ⟨4, ![2, 8192, 4, 64]⟩
abbrev S256x512 : Shape := ⟨2, ![256, 512]⟩
abbrev S_ : Shape := ⟨0, ![]⟩

class Facts : Prop where
  bcast_S_S2x8192x512 : S_.BroadcastsInDim S2x8192x512 (![] : Fin 0 → Fin S2x8192x512.rank)
  bcast_S_S512x256 : S_.BroadcastsInDim S512x256 (![] : Fin 0 → Fin S512x256.rank)
  bcast_S_S2x8192x4x64 : S_.BroadcastsInDim S2x8192x4x64 (![] : Fin 0 → Fin S2x8192x4x64.rank)

variable [Facts]

def fn {F : FTy → Type} [FloatOps F] (main_arg0 : FVec F S2x8192x512 .f32) (main_arg1 : FVec F S512x256 .f32) (main_arg2 : FVec F S2x8192x4x64 .f32) (main_arg3 : FVec F S2x8192x4x64 .f32) (main_arg4 : FVec F S256x512 .f32) : IVec S2x8192x512 1 × IVec S512x256 1 × IVec S2x8192x4x64 1 :=
  let main_v0 : FVec F S2x8192x512 .f32 := Host.absf main_arg0
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x8192x4x64 .f32 := Host.absf main_arg2
  let main_cst_1 : FVec F S_ .f32 := constant S_ .f32 0x7F800000#32
  let main_v7 : FVec F S2x8192x4x64 .f32 := broadcastInDim S2x8192x4x64 ![] bcast_S_S2x8192x4x64 main_cst_1
  let main_v8 : IVec S2x8192x4x64 1 := cmpf .olt main_v6 main_v7
  (main_v2, main_v5, main_v8)
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x2x2x128x4x64 : Shape := ⟨6, ![2, 2, 2, 128, 4, 64]⟩
abbrev S2 : Shape := ⟨1, ![2]⟩
abbrev S_ : Shape := ⟨0, ![]⟩
abbrev S2x128x4x64 : Shape := ⟨4, ![2, 128, 4, 64]⟩
abbrev S1x1x2x128x4x64 : Shape := ⟨6, ![1, 1, 2, 128, 4, 64]⟩
abbrev S1 : Shape := ⟨1, ![1]⟩
abbrev S1x2x2x128x4x64 : Shape := ⟨6, ![1, 2, 2, 128, 4, 64]⟩
abbrev S2x2x128x4x64 : Shape := ⟨5, ![2, 2, 128, 4, 64]⟩
abbrev S512x512 : Shape := ⟨2, ![512, 512]⟩
abbrev S256x256 : Shape := ⟨2, ![256, 256]⟩
abbrev S128x128 : Shape := ⟨2, ![128, 128]⟩
abbrev S1x256x1x64 : Shape := ⟨4, ![1, 256, 1, 64]⟩
abbrev S256x64 : Shape := ⟨2, ![256, 64]⟩
abbrev S256 : Shape := ⟨1, ![256]⟩
abbrev S256x1 : Shape := ⟨2, ![256, 1]⟩
abbrev S1x128x1x64 : Shape := ⟨4, ![1, 128, 1, 64]⟩
abbrev S128x64 : Shape := ⟨2, ![128, 64]⟩
abbrev S128 : Shape := ⟨1, ![128]⟩
abbrev S128x1 : Shape := ⟨2, ![128, 1]⟩
abbrev S1x256x512 : Shape := ⟨3, ![1, 256, 512]⟩

abbrev nBuf : Space → Nat
  | .hbm => 6
  | .vmem => 10
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x4x64, .f32⟩
  | .local _ .vmem, ⟨3, _⟩ => ⟨S2x256x4x64, .f32⟩
  | .local _ .vmem, ⟨4, _⟩ => ⟨S256x512, .f32⟩
  | .local _ .vmem, ⟨5, _⟩ => ⟨S2x256x512, .f32⟩
  | .local _ .vmem, ⟨6, _⟩ => ⟨S2x2x2x128x4x64, .bf16⟩
  | .local _ .vmem, ⟨7, _⟩ => ⟨S2x2x2x128x4x64, .bf16⟩
  | .local _ .vmem, ⟨8, _⟩ => ⟨S2x256x4x64, .bf16⟩
  | .local _ .vmem, ⟨9, _⟩ => ⟨S2x256x4x64, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v6 : BitVec 1 := Scalar.cmpi .sgt v2 c0_i32
  let v7 : BitVec 32 := Scalar.extui v6
  let c0_i32_2 : BitVec 32 := 0#32
  let v8 : BitVec 1 := Scalar.cmpi .ne v7 c0_i32_2
  v8

def k0_dev1 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c1_i32_245 : BitVec 32 := 1#32
  let v558 : BitVec 32 := Scalar.muli v3 c1_i32_245
  let v559 : BitVec 32 := Scalar.addi c0_i32_246 v558
  v559.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v9 : BitVec 1 := Scalar.cmpi .slt v2 c31_i32
  let v10 : BitVec 32 := Scalar.extui v9
  let c0_i32_3 : BitVec 32 := 0#32
  let v11 : BitVec 1 := Scalar.cmpi .ne v10 c0_i32_3
  v11

def k0_dev2 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v4 : BitVec 32 := Scalar.addi v2 c1_i32_1
  let c1_i32_245 : BitVec 32 := 1#32
  let v558 : BitVec 32 := Scalar.muli v4 c1_i32_245
  let v559 : BitVec 32 := Scalar.addi c0_i32_246 v558
  v559.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_45 : BitVec 32 := 31#32
  let v42 : BitVec 1 := Scalar.cmpi .slt v2 c31_i32_45
  let v43 : BitVec 32 := Scalar.extui v42
  let c0_i32_46 : BitVec 32 := 0#32
  let v44 : BitVec 1 := Scalar.cmpi .ne v43 c0_i32_46
  v44

def k0_dev3 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v4 : BitVec 32 := Scalar.addi v2 c1_i32_1
  let c1_i32_248 : BitVec 32 := 1#32
  let v558 : BitVec 32 := Scalar.muli v4 c1_i32_248
  let v559 : BitVec 32 := Scalar.addi c0_i32_249 v558
  v559.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_47 : BitVec 32 := 0#32
  let v45 : BitVec 1 := Scalar.cmpi .sgt v2 c0_i32_47
  let v46 : BitVec 32 := Scalar.extui v45
  let c0_i32_48 : BitVec 32 := 0#32
  let v47 : BitVec 1 := Scalar.cmpi .ne v46 c0_i32_48
  v47

def k0_dev4 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c1_i32_248 : BitVec 32 := 1#32
  let v558 : BitVec 32 := Scalar.muli v3 c1_i32_248
  let v559 : BitVec 32 := Scalar.addi c0_i32_249 v558
  v559.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x8192x512 : Shape := ⟨3, ![2, 8192, 512]⟩
abbrev S512x256 : Shape := ⟨2, ![512, 256]⟩
abbrev S2x8192x4x64 : Shape := ⟨4, ![2, 8192, 4, 64]⟩
abbrev S256x512 : Shape := ⟨2, ![256, 512]⟩
abbrev S2x8192x256 : Shape := ⟨3, ![2, 8192, 256]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S2x4x8192x8192 : Shape := ⟨4, ![2, 4, 8192, 8192]⟩
abbrev S1x1x8192x8192 : Shape := ⟨4, ![1, 1, 8192, 8192]⟩
abbrev S2x4x8192 : Shape := ⟨3, ![2, 4, 8192]⟩
abbrev S2x4x8192x1 : Shape := ⟨4, ![2, 4, 8192, 1]⟩
abbrev S1x1x8192x1 : Shape := ⟨4, ![1, 1, 8192, 1]⟩
abbrev S2x4x64x8192 : Shape := ⟨4, ![2, 4, 64, 8192]⟩

abbrev nBuf : Space → Nat
  | .hbm => 57
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S512x256, .f32⟩
  | .hbm, ⟨2, _⟩ => ⟨S2x8192x4x64, .f32⟩
  | .hbm, ⟨3, _⟩ => ⟨S2x8192x4x64, .f32⟩
  | .hbm, ⟨4, _⟩ => ⟨S256x512, .f32⟩
  | .hbm, ⟨5, _⟩ => ⟨S2x8192x256, .f32⟩
  | .hbm, ⟨6, _⟩ => ⟨S2x8192x4x64, .f32⟩
  | .hbm, ⟨7, _⟩ => ⟨S8192, .i32⟩
  | .hbm, ⟨8, _⟩ => ⟨S8192x1, .i32⟩
  | .hbm, ⟨9, _⟩ => ⟨S8192, .i32⟩
  | .hbm, ⟨10, _⟩ => ⟨S1x8192, .i32⟩
  | .hbm, ⟨11, _⟩ => ⟨S8192x8192, .i32⟩
  | .hbm, ⟨12, _⟩ => ⟨S8192x8192, .i32⟩
  | .hbm, ⟨13, _⟩ => ⟨S8192x8192, .i32⟩
  | .hbm, ⟨14, _⟩ => ⟨S8192x8192, .i32⟩
  | .hbm, ⟨15, _⟩ => ⟨S_, .i32⟩
  | .hbm, ⟨16, _⟩ => ⟨S8192x8192, .i32⟩
  | .hbm, ⟨17, _⟩ => ⟨S8192x8192, .i1⟩
  | .hbm, ⟨18, _⟩ => ⟨S2x4x8192x8192, .f32⟩
  | .hbm, ⟨19, _⟩ => ⟨S_, .f32⟩
  | .hbm, ⟨20, _⟩ => ⟨S2x4x8192x8192, .f32⟩
  | .hbm, ⟨21, _⟩ => ⟨S2x4x8192x8192, .f32⟩
  | .hbm, ⟨22, _⟩ => ⟨S1x1x8192x8192, .i1⟩
  | .hbm, ⟨23, _⟩ => ⟨S_, .f32⟩
  | .hbm, ⟨24, _⟩ => ⟨S_, .f32⟩
  | .hbm, ⟨25, _⟩ => ⟨S2x4x8192x8192, .i1⟩
  | .hbm, ⟨26, _⟩ => ⟨S2x4x8192x8192, .f32⟩
  | .hbm, ⟨27, _⟩ => ⟨S2x4x8192x8192, .f32⟩
  | .hbm, ⟨28, _⟩ => ⟨S_, .f32⟩
  | .hbm, ⟨29, _⟩ => ⟨S2x4x8192, .f32⟩
  | .hbm, ⟨30, _⟩ => ⟨S2x4x8192x1, .f32⟩
  | .hbm, ⟨31, _⟩ => ⟨S2x4x8192x8192, .f32⟩
  | .hbm, ⟨32, _⟩ => ⟨S2x4x8192x8192, .f32⟩
  | .hbm, ⟨33, _⟩ => ⟨S2x4x8192x8192, .f32⟩
  | .hbm, ⟨34, _⟩ => ⟨S_, .i1⟩
  | .hbm, ⟨35, _⟩ => ⟨S8192, .i1⟩
  | .hbm, ⟨36, _⟩ => ⟨S1x1x8192x1, .i1⟩
  | .hbm, ⟨37, _⟩ => ⟨S_, .f32⟩
  | .hbm, ⟨38, _⟩ => ⟨S2x4x8192, .f32⟩
  | .hbm, ⟨39, _⟩ => ⟨S2x4x8192x1, .f32⟩
  | .hbm, ⟨40, _⟩ => ⟨S_, .f32⟩
  | .hbm, ⟨41, _⟩ => ⟨S_, .f32⟩
  | .hbm, ⟨42, _⟩ => ⟨S2x4x8192x1, .i1⟩
  | .hbm, ⟨43, _⟩ => ⟨S2x4x8192x1, .f32⟩
  | .hbm, ⟨44, _⟩ => ⟨S2x4x8192x1, .f32⟩
  | .hbm, ⟨45, _⟩ => ⟨S2x4x8192x8192, .f32⟩
  | .hbm, ⟨46, _⟩ => ⟨S2x4x8192x8192, .f32⟩
  | .hbm, ⟨47, _⟩ => ⟨S1x1x8192x1, .i1⟩
  | .hbm, ⟨48, _⟩ => ⟨S_, .f32⟩
  | .hbm, ⟨49, _⟩ => ⟨S_, .f32⟩
  | .hbm, ⟨50, _⟩ => ⟨S2x4x8192x8192, .i1⟩
  | .hbm, ⟨51, _⟩ => ⟨S2x4x8192x8192, .f32⟩
  | .hbm, ⟨52, _⟩ => ⟨S2x4x8192x8192, .f32⟩
  | .hbm, ⟨53, _⟩ => ⟨S2x4x64x8192, .f32⟩
  | .hbm, ⟨54, _⟩ => ⟨S2x8192x4x64, .f32⟩
  | .hbm, ⟨55, _⟩ => ⟨S2x8192x256, .f32⟩
  | .hbm, ⟨56, _⟩ => ⟨S2x8192x512, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.RunIdeal.Slots.lean ====
/-
The two halves of the halo buffer and of the outgoing buffer.

`cc0_scratch0` receives the neighbours' edge rows and `cc0_scratch1` holds a device's own edge rows to
send. Both have shape `2 × 2 × (2 × 128 × 4 × 64)`: the first axis says which neighbour (0: the one
before, 1: the one after), the second says keys (0) or values (1). A transfer moves one half of the first
axis. This module names the halves as the kernel does (a slice with its first axis dropped), finds their
elements, and says what a transfer of one half onto another leaves there.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Writes
public import Idealize.ShloMosaic.Lib.Tactic

@[expose] public section

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ### The buffers and their halves -/

/-- The halo buffer, whole. -/
abbrev haloM : Memref sig .tc .vmem S2x2x2x128x4x64 .bf16 := Memref.whole cc0_scratch0
/-- The outgoing buffer, whole. -/
abbrev sendM : Memref sig .tc .vmem S2x2x2x128x4x64 .bf16 := Memref.whole cc0_scratch1

/-- Half 0 of the first axis, and half 1. -/
abbrev rect0 : Rect S2x2x2x128x4x64 :=
  Rect.unit (s := S2x2x2x128x4x64) ![0, 0, 0, 0, 0, 0] S1x2x2x128x4x64.size inb_S2x2x2x128x4x64_S1x2x2x128x4x64_0_0_0_0_0_0
abbrev rect1 : Rect S2x2x2x128x4x64 :=
  Rect.unit (s := S2x2x2x128x4x64) ![1, 0, 0, 0, 0, 0] S1x2x2x128x4x64.size inb_S2x2x2x128x4x64_S1x2x2x128x4x64_1_0_0_0_0_0

/-- Keys (`_0`) and values (`_1`) of each half. -/
abbrev rect00 : Rect S2x2x2x128x4x64 :=
  Rect.unit (s := S2x2x2x128x4x64) ![0, 0, 0, 0, 0, 0] S1x1x2x128x4x64.size inb_S2x2x2x128x4x64_S1x1x2x128x4x64_0_0_0_0_0_0
abbrev rect01 : Rect S2x2x2x128x4x64 :=
  Rect.unit (s := S2x2x2x128x4x64) ![0, 1, 0, 0, 0, 0] S1x1x2x128x4x64.size inb_S2x2x2x128x4x64_S1x1x2x128x4x64_0_1_0_0_0_0
abbrev rect10 : Rect S2x2x2x128x4x64 :=
  Rect.unit (s := S2x2x2x128x4x64) ![1, 0, 0, 0, 0, 0] S1x1x2x128x4x64.size inb_S2x2x2x128x4x64_S1x1x2x128x4x64_1_0_0_0_0_0
abbrev rect11 : Rect S2x2x2x128x4x64 :=
  Rect.unit (s := S2x2x2x128x4x64) ![1, 1, 0, 0, 0, 0] S1x1x2x128x4x64.size inb_S2x2x2x128x4x64_S1x1x2x128x4x64_1_1_0_0_0_0

/-- The halves as the transfers name them. -/
abbrev halo0 : Memref sig .tc .vmem S2x2x128x4x64 .bf16 :=
  (haloM.slice rect0 (fun _ => rfl)).squeeze S2x2x128x4x64 squeezes_S1x2x2x128x4x64_S2x2x128x4x64
abbrev halo1 : Memref sig .tc .vmem S2x2x128x4x64 .bf16 :=
  (haloM.slice rect1 (fun _ => rfl)).squeeze S2x2x128x4x64 squeezes_S1x2x2x128x4x64_S2x2x128x4x64
abbrev send0 : Memref sig .tc .vmem S2x2x128x4x64 .bf16 :=
  (sendM.slice rect0 (fun _ => rfl)).squeeze S2x2x128x4x64 squeezes_S1x2x2x128x4x64_S2x2x128x4x64
abbrev send1 : Memref sig .tc .vmem S2x2x128x4x64 .bf16 :=
  (sendM.slice rect1 (fun _ => rfl)).squeeze S2x2x128x4x64 squeezes_S1x2x2x128x4x64_S2x2x128x4x64

/-! ### Their elements -/

theorem set_halo0 : (halo0 : Memref sig .tc .vmem S2x2x128x4x64 .bf16).view.set = rect0.set :=
  (View.set_reshape _ _).trans (View.set_slice_whole _ _)
theorem set_halo1 : (halo1 : Memref sig .tc .vmem S2x2x128x4x64 .bf16).view.set = rect1.set :=
  (View.set_reshape _ _).trans (View.set_slice_whole _ _)
theorem set_send0 : (send0 : Memref sig .tc .vmem S2x2x128x4x64 .bf16).view.set = rect0.set :=
  (View.set_reshape _ _).trans (View.set_slice_whole _ _)
theorem set_send1 : (send1 : Memref sig .tc .vmem S2x2x128x4x64 .bf16).view.set = rect1.set :=
  (View.set_reshape _ _).trans (View.set_slice_whole _ _)

/-- The two halves share no element, -/
theorem halves_disjoint : Disjoint rect0.set rect1.set := Rect.unit_disjoint 0 (Or.inl (by decide))

/-- and make up the buffer. -/
theorem halves_union : rect0.set ∪ rect1.set = Finset.univ := by
  ext i
  simp only [Finset.mem_union, Finset.mem_univ, iff_true]
  rcases (show (i 0 : Nat) = 0 ∨ (i 0 : Nat) = 1 by have := (i 0).isLt; change (i 0 : Nat) < 2 at this; omega) with h | h
  · left; rw [Rect.mem_set_unit]
    intro a; fin_cases a
    · exact ⟨Nat.zero_le _, by change (i 0 : Nat) < 0 + 1; omega⟩
    all_goals exact ⟨Nat.zero_le _, (i _).isLt.trans_le (by decide)⟩
  · right; rw [Rect.mem_set_unit]
    intro a; fin_cases a
    · exact ⟨by change 1 ≤ (i 0 : Nat); omega, by change (i 0 : Nat) < 1 + 1; omega⟩
    all_goals exact ⟨Nat.zero_le _, (i _).isLt.trans_le (by decide)⟩

theorem quarter_subset0 (r : Rect S2x2x2x128x4x64) (h : r = rect00 ∨ r = rect01) : r.set ⊆ rect0.set := by
  intro i hi
  rcases h with rfl | rfl
  all_goals
    rw [Rect.mem_set_unit] at hi ⊢
    intro a
    have := hi a
    have hl := (i a).isLt
    fin_cases a
    · exact this
    · exact ⟨Nat.zero_le _, hl.trans_le (by decide)⟩
    all_goals exact this

theorem quarter_subset1 (r : Rect S2x2x2x128x4x64) (h : r = rect10 ∨ r = rect11) : r.set ⊆ rect1.set := by
  intro i hi
  rcases h with rfl | rfl
  all_goals
    rw [Rect.mem_set_unit] at hi ⊢
    intro a
    have := hi a
    have hl := (i a).isLt
    fin_cases a
    · exact this
    · exact ⟨Nat.zero_le _, hl.trans_le (by decide)⟩
    all_goals exact this

/-! ### What a transfer of a half leaves -/

/-- A quarter's index as an index of the half it lies in: keys or values by `j`. -/
def inHalf (j : Fin 2) (x : S1x1x2x128x4x64.Idx) : S1x2x2x128x4x64.Idx :=
  fun a => match a with
    | ⟨0, _⟩ => (⟨0, Nat.one_pos⟩ : Fin 1)
    | ⟨1, _⟩ => (j : Fin 2)
    | ⟨2, _⟩ => x 2
    | ⟨3, _⟩ => x 3
    | ⟨4, _⟩ => x 4
    | ⟨5, _⟩ => x 5

theorem emb00 (x : S1x1x2x128x4x64.Idx) : rect00.emb x = rect0.emb (inHalf 0 x) := by
  funext a; apply Fin.ext
  have h0 : (x 0 : Nat) = 0 := by have := (x 0).isLt; change (x 0 : Nat) < 1 at this; omega
  have h1 : (x 1 : Nat) = 0 := by have := (x 1).isLt; change (x 1 : Nat) < 1 at this; omega
  rw [Rect.emb_apply, Rect.emb_apply]
  fin_cases a
  · change 0 + 1 * (x 0 : Nat) = 0 + 1 * 0; omega
  · change 0 + 1 * (x 1 : Nat) = 0 + 1 * 0; omega
  · change 0 + 1 * (x 2 : Nat) = 0 + 1 * (x 2 : Nat); rfl
  · change 0 + 1 * (x 3 : Nat) = 0 + 1 * (x 3 : Nat); rfl
  · change 0 + 1 * (x 4 : Nat) = 0 + 1 * (x 4 : Nat); rfl
  · change 0 + 1 * (x 5 : Nat) = 0 + 1 * (x 5 : Nat); rfl
theorem emb01 (x : S1x1x2x128x4x64.Idx) : rect01.emb x = rect0.emb (inHalf 1 x) := by
  funext a; apply Fin.ext
  have h0 : (x 0 : Nat) = 0 := by have := (x 0).isLt; change (x 0 : Nat) < 1 at this; omega
  have h1 : (x 1 : Nat) = 0 := by have := (x 1).isLt; change (x 1 : Nat) < 1 at this; omega
  rw [Rect.emb_apply, Rect.emb_apply]
  fin_cases a
  · change 0 + 1 * (x 0 : Nat) = 0 + 1 * 0; omega
  · change 1 + 1 * (x 1 : Nat) = 0 + 1 * 1; omega
  · change 0 + 1 * (x 2 : Nat) = 0 + 1 * (x 2 : Nat); rfl
  · change 0 + 1 * (x 3 : Nat) = 0 + 1 * (x 3 : Nat); rfl
  · change 0 + 1 * (x 4 : Nat) = 0 + 1 * (x 4 : Nat); rfl
  · change 0 + 1 * (x 5 : Nat) = 0 + 1 * (x 5 : Nat); rfl
theorem emb10 (x : S1x1x2x128x4x64.Idx) : rect10.emb x = rect1.emb (inHalf 0 x) := by
  funext a; apply Fin.ext
  have h0 : (x 0 : Nat) = 0 := by have := (x 0).isLt; change (x 0 : Nat) < 1 at this; omega
  have h1 : (x 1 : Nat) = 0 := by have := (x 1).isLt; change (x 1 : Nat) < 1 at this; omega
  rw [Rect.emb_apply, Rect.emb_apply]
  fin_cases a
  · change 1 + 1 * (x 0 : Nat) = 1 + 1 * 0; omega
  · change 0 + 1 * (x 1 : Nat) = 0 + 1 * 0; omega
  · change 0 + 1 * (x 2 : Nat) = 0 + 1 * (x 2 : Nat); rfl
  · change 0 + 1 * (x 3 : Nat) = 0 + 1 * (x 3 : Nat); rfl
  · change 0 + 1 * (x 4 : Nat) = 0 + 1 * (x 4 : Nat); rfl
  · change 0 + 1 * (x 5 : Nat) = 0 + 1 * (x 5 : Nat); rfl
theorem emb11 (x : S1x1x2x128x4x64.Idx) : rect11.emb x = rect1.emb (inHalf 1 x) := by
  funext a; apply Fin.ext
  have h0 : (x 0 : Nat) = 0 := by have := (x 0).isLt; change (x 0 : Nat) < 1 at this; omega
  have h1 : (x 1 : Nat) = 0 := by have := (x 1).isLt; change (x 1 : Nat) < 1 at this; omega
  rw [Rect.emb_apply, Rect.emb_apply]
  fin_cases a
  · change 1 + 1 * (x 0 : Nat) = 1 + 1 * 0; omega
  · change 1 + 1 * (x 1 : Nat) = 0 + 1 * 1; omega
  · change 0 + 1 * (x 2 : Nat) = 0 + 1 * (x 2 : Nat); rfl
  · change 0 + 1 * (x 3 : Nat) = 0 + 1 * (x 3 : Nat); rfl
  · change 0 + 1 * (x 4 : Nat) = 0 + 1 * (x 4 : Nat); rfl
  · change 0 + 1 * (x 5 : Nat) = 0 + 1 * (x 5 : Nat); rfl

/-- Half 1 of the outgoing buffer written over half 0 of a halo buffer, element by element. -/
theorem sent_to0 (fd : (cc0_scratch0 : Ref sig .tc).ty.Contents (Elt F)) (fs : (cc0_scratch1 : Ref sig .tc).ty.Contents (Elt F))
    (y : S1x2x2x128x4x64.Idx) :
    (halo0 : Memref sig .tc .vmem S2x2x128x4x64 .bf16).view.write (Elt F) fd
      ((send1 : Memref sig .tc .vmem S2x2x128x4x64 .bf16).view.read (Elt F) fs) Finset.univ (rect0.emb y) = fs (rect1.emb y) := by
  obtain ⟨z, rfl⟩ := (Shape.reshapeEquiv squeezes_S1x2x2x128x4x64_S2x2x128x4x64.numel_eq).surjective y
  exact (View.write_emb_of_mem (v := (halo0 : Memref sig .tc .vmem S2x2x128x4x64 .bf16).view) (Val := Elt F) fd
    ((send1 : Memref sig .tc .vmem S2x2x128x4x64 .bf16).view.read (Elt F) fs) (Finset.mem_univ z))

/-- Half 0 of the outgoing buffer written over half 1 of a halo buffer, element by element. -/
theorem sent_to1 (fd : (cc0_scratch0 : Ref sig .tc).ty.Contents (Elt F)) (fs : (cc0_scratch1 : Ref sig .tc).ty.Contents (Elt F))
    (y : S1x2x2x128x4x64.Idx) :
    (halo1 : Memref sig .tc .vmem S2x2x128x4x64 .bf16).view.write (Elt F) fd
      ((send0 : Memref sig .tc .vmem S2x2x128x4x64 .bf16).view.read (Elt F) fs) Finset.univ (rect1.emb y) = fs (rect0.emb y) := by
  obtain ⟨z, rfl⟩ := (Shape.reshapeEquiv squeezes_S1x2x2x128x4x64_S2x2x128x4x64.numel_eq).surjective y
  exact (View.write_emb_of_mem (v := (halo1 : Memref sig .tc .vmem S2x2x128x4x64 .bf16).view) (Val := Elt F) fd
    ((send0 : Memref sig .tc .vmem S2x2x128x4x64 .bf16).view.read (Elt F) fs) (Finset.mem_univ z))

/-- Contents whose half 0 is another buffer's half 1 read the same by quarters. -/
theorem quarters_of0 (g fs : (cc0_scratch0 : Ref sig .tc).ty.Contents (Elt F)) (h : ∀ y, g (rect0.emb y) = fs (rect1.emb y)) :
    haloM.view.readAt (Elt F) rect00.toLoadRect g = sendM.view.readAt (Elt F) rect10.toLoadRect fs
      ∧ haloM.view.readAt (Elt F) rect01.toLoadRect g = sendM.view.readAt (Elt F) rect11.toLoadRect fs := by
  constructor
  · funext x
    change g (rect00.emb x) = fs (rect10.emb x)
    rw [emb00, emb10, h]
  · funext x
    change g (rect01.emb x) = fs (rect11.emb x)
    rw [emb01, emb11, h]

/-- A transfer of half 1 of the outgoing buffer onto half 0 of a halo buffer, read there by quarters. -/
theorem landed0 (fd : (cc0_scratch0 : Ref sig .tc).ty.Contents (Elt F)) (fs : (cc0_scratch1 : Ref sig .tc).ty.Contents (Elt F)) :
    (haloM.view.readAt (Elt F) rect00.toLoadRect ((halo0 : Memref sig .tc .vmem S2x2x128x4x64 .bf16).view.write (Elt F) fd ((send1 : Memref sig .tc .vmem S2x2x128x4x64 .bf16).view.read (Elt F) fs) Finset.univ)
        = sendM.view.readAt (Elt F) rect10.toLoadRect fs)
      ∧ haloM.view.readAt (Elt F) rect01.toLoadRect ((halo0 : Memref sig .tc .vmem S2x2x128x4x64 .bf16).view.write (Elt F) fd ((send1 : Memref sig .tc .vmem S2x2x128x4x64 .bf16).view.read (Elt F) fs) Finset.univ)
        = sendM.view.readAt (Elt F) rect11.toLoadRect fs :=
  quarters_of0 _ fs (sent_to0 fd fs)

/-- Contents whose half 1 is another buffer's half 0 read the same by quarters. -/
theorem quarters_of1 (g fs : (cc0_scratch0 : Ref sig .tc).ty.Contents (Elt F)) (h : ∀ y, g (rect1.emb y) = fs (rect0.emb y)) :
    haloM.view.readAt (Elt F) rect10.toLoadRect g = sendM.view.readAt (Elt F) rect00.toLoadRect fs
      ∧ haloM.view.readAt (Elt F) rect11.toLoadRect g = sendM.view.readAt (Elt F) rect01.toLoadRect fs := by
  constructor
  · funext x
    change g (rect10.emb x) = fs (rect00.emb x)
    rw [emb10, emb00, h]
  · funext x
    change g (rect11.emb x) = fs (rect01.emb x)
    rw [emb11, emb01, h]

/-- A transfer of half 0 of the outgoing buffer onto half 1 of a halo buffer, read there by quarters. -/
theorem landed1 (fd : (cc0_scratch0 : Ref sig .tc).ty.Contents (Elt F)) (fs : (cc0_scratch1 : Ref sig .tc).ty.Contents (Elt F)) :
    (haloM.view.readAt (Elt F) rect10.toLoadRect ((halo1 : Memref sig .tc .vmem S2x2x128x4x64 .bf16).view.write (Elt F) fd ((send0 : Memref sig .tc .vmem S2x2x128x4x64 .bf16).view.read (Elt F) fs) Finset.univ)
        = sendM.view.readAt (Elt F) rect00.toLoadRect fs)
      ∧ haloM.view.readAt (Elt F) rect11.toLoadRect ((halo1 : Memref sig .tc .vmem S2x2x128x4x64 .bf16).view.write (Elt F) fd ((send0 : Memref sig .tc .vmem S2x2x128x4x64 .bf16).view.read (Elt F) fs) Finset.univ)
        = sendM.view.readAt (Elt F) rect01.toLoadRect fs :=
  quarters_of1 _ fs (sent_to1 fd fs)

/-! ### What the four stores into the outgoing buffer leave -/

theorem quarters_disjoint {r r' : Rect S2x2x2x128x4x64} (h : Disjoint r.set r'.set) (M : Finset r'.shape.Idx) :
    Disjoint (sendM.view.slice r).set ((sendM.view.slice r').setOn M) := by
  refine Disjoint.mono_right ((View.setOn_subset_set _ _)) ?_
  rw [show (sendM.view.slice r).set = r.set from View.set_slice_whole _ _, show (sendM.view.slice r').set = r'.set from View.set_slice_whole _ _]
  exact h

theorem disjoint_00_01 : Disjoint rect00.set rect01.set := Rect.unit_disjoint 1 (Or.inl (by decide))
theorem disjoint_00_10 : Disjoint rect00.set rect10.set := Rect.unit_disjoint 0 (Or.inl (by decide))
theorem disjoint_00_11 : Disjoint rect00.set rect11.set := Rect.unit_disjoint 0 (Or.inl (by decide))
theorem disjoint_01_10 : Disjoint rect01.set rect10.set := Rect.unit_disjoint 0 (Or.inl (by decide))
theorem disjoint_01_11 : Disjoint rect01.set rect11.set := Rect.unit_disjoint 0 (Or.inl (by decide))
theorem disjoint_10_11 : Disjoint rect10.set rect11.set := Rect.unit_disjoint 1 (Or.inl (by decide))

/-- The outgoing buffer after its four stores. -/
abbrev filled (f : (cc0_scratch1 : Ref sig .tc).ty.Contents (Elt F)) (w00 w01 w10 w11 : Vec F S1x1x2x128x4x64 .bf16) :
    (cc0_scratch1 : Ref sig .tc).ty.Contents (Elt F) :=
  (sendM.access rect11).write (Elt F) ((sendM.access rect10).write (Elt F) ((sendM.access rect01).write (Elt F)
    ((sendM.access rect00).write (Elt F) f w00 Finset.univ) w01 Finset.univ) w10 Finset.univ) w11 Finset.univ

theorem filled_reads (f : (cc0_scratch1 : Ref sig .tc).ty.Contents (Elt F)) (w00 w01 w10 w11 : Vec F S1x1x2x128x4x64 .bf16) :
    sendM.view.readAt (Elt F) rect00.toLoadRect (filled f w00 w01 w10 w11) = w00
      ∧ sendM.view.readAt (Elt F) rect01.toLoadRect (filled f w00 w01 w10 w11) = w01
      ∧ sendM.view.readAt (Elt F) rect10.toLoadRect (filled f w00 w01 w10 w11) = w10
      ∧ sendM.view.readAt (Elt F) rect11.toLoadRect (filled f w00 w01 w10 w11) = w11 := by
  refine ⟨?_, ?_, ?_, ?_⟩
  · rw [View.readAt_rect, View.read_slice_write_slice_of_disjoint _ _ _ _ _ (quarters_disjoint disjoint_00_11 _),
      View.read_slice_write_slice_of_disjoint _ _ _ _ _ (quarters_disjoint disjoint_00_10 _),
      View.read_slice_write_slice_of_disjoint _ _ _ _ _ (quarters_disjoint disjoint_00_01 _)]
    exact View.read_write_univ _ _
  · rw [View.readAt_rect, View.read_slice_write_slice_of_disjoint _ _ _ _ _ (quarters_disjoint disjoint_01_11 _),
      View.read_slice_write_slice_of_disjoint _ _ _ _ _ (quarters_disjoint disjoint_01_10 _)]
    exact View.read_write_univ _ _
  · rw [View.readAt_rect, View.read_slice_write_slice_of_disjoint _ _ _ _ _ (quarters_disjoint disjoint_10_11 _)]
    exact View.read_write_univ _ _
  · rw [View.readAt_rect]
    exact View.read_write_univ _ _

end Cert.KernelIdeal.Halo

end
-- ==== Proof.RunIdeal.Protocol.lean ====
/-
The exchange of edge rows, as a protocol on semaphore cells.

The devices stand in a line of 32. Each one tells every neighbour it has that it is inside the kernel (one
unit on the neighbour's barrier semaphore), waits for as many units as it has neighbours, and then sends half 1
of its outgoing buffer to half 0 of the halo buffer of the device after it and half 0 to half 1 of the halo
buffer of the device before it. A unit paid into a neighbour's barrier cell lends that neighbour the half of the
payer's halo buffer the neighbour writes; completion of a transfer gives the half back, holding the
neighbour's edge rows.

All cells have one round. The ends of the line have one neighbour only, so the duties of their cells
are fewer: `hasL` and `hasR` say which neighbours a device has.
-/
module

public import proofs.«01_k».proof.Proof.RunIdeal.Slots

@[expose] public section

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ### The resource algebra: the pipeline's part and the exchange's part -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ### The line of devices -/

/-- Whether a device has one before it, and one after it. -/
abbrev hasL (c : Dev nD) : Prop := 0 < c.val
abbrev hasR (c : Dev nD) : Prop := c.val < 31

set_option backward.proofsInPublic true in
/-- The device after `c` (the first, after the last: never used there). -/
def nxt (c : Dev nD) : Dev nD := ⟨(c.val + 1) % 32, Nat.mod_lt _ (by decide)⟩
set_option backward.proofsInPublic true in
/-- The device before `c`. -/
def prv (c : Dev nD) : Dev nD := ⟨(c.val + 31) % 32, Nat.mod_lt _ (by decide)⟩

theorem prv_nxt (c : Dev nD) : prv (nxt c) = c := by revert c; decide
theorem nxt_prv (c : Dev nD) : nxt (prv c) = c := by revert c; decide
theorem hasL_nxt {c : Dev nD} (h : hasR c) : hasL (nxt c) := by revert c; decide
theorem hasR_prv {c : Dev nD} (h : hasL c) : hasR (prv c) := by revert c; decide
theorem hasR_of_hasL_nxt {c : Dev nD} (h : hasL (nxt c)) : hasR c := by revert c; decide
theorem hasL_of_hasR_prv {c : Dev nD} (h : hasR (prv c)) : hasL c := by revert c; decide
theorem nxt_val {c : Dev nD} (h : hasR c) : (nxt c).val = c.val + 1 := by revert c; decide
theorem prv_val {c : Dev nD} (h : hasL c) : (prv c).val = c.val - 1 := by revert c; decide

def ring : Dev nD ≃ Dev nD := ⟨nxt, prv, prv_nxt, nxt_prv⟩

/-- The device numbers the kernel computes. -/
theorem dev1_eq (c : Dev nD) (h : k0_cond1 c = 1#1) : (⟨k0_dev1 c, k0_dev1_lt c h⟩ : Dev nD) = prv c :=
  Fin.ext ((by decide : ∀ c : Dev nD, k0_cond1 c = 1#1 → k0_dev1 c = (prv c).val) c h)
theorem dev2_eq (c : Dev nD) (h : k0_cond2 c = 1#1) : (⟨k0_dev2 c, k0_dev2_lt c h⟩ : Dev nD) = nxt c :=
  Fin.ext ((by decide : ∀ c : Dev nD, k0_cond2 c = 1#1 → k0_dev2 c = (nxt c).val) c h)
theorem dev3_eq (c : Dev nD) (h : k0_cond5 c = 1#1) : (⟨k0_dev3 c, k0_dev3_lt c h⟩ : Dev nD) = nxt c :=
  Fin.ext ((by decide : ∀ c : Dev nD, k0_cond5 c = 1#1 → k0_dev3 c = (nxt c).val) c h)
theorem dev4_eq (c : Dev nD) (h : k0_cond6 c = 1#1) : (⟨k0_dev4 c, k0_dev4_lt c h⟩ : Dev nD) = prv c :=
  Fin.ext ((by decide : ∀ c : Dev nD, k0_cond6 c = 1#1 → k0_dev4 c = (prv c).val) c h)

/-- A device's place in the line, as the kernel computes it. -/
abbrev place (c : Dev nD) : BitVec 32 := Scalar.remsi (Scalar.divsi (Dev.word c) 1#32) 32#32

/-- The kernel's conditions say which neighbours there are. -/
theorem cond1_iff (c : Dev nD) : k0_cond1 c = 1#1 ↔ hasL c := by revert c; decide
theorem cond2_iff (c : Dev nD) : k0_cond2 c = 1#1 ↔ hasR c := by revert c; decide
theorem cond5_iff (c : Dev nD) : k0_cond5 c = 1#1 ↔ hasR c := by revert c; decide
theorem cond6_iff (c : Dev nD) : k0_cond6 c = 1#1 ↔ hasL c := by revert c; decide
theorem gt_iff (c : Dev nD) : Scalar.cmpi .ne (Scalar.extui (Scalar.cmpi .sgt (place c) 0#32)) 0#32 = 1#1 ↔ hasL c := by revert c; decide
theorem lt_iff (c : Dev nD) : Scalar.cmpi .ne (Scalar.extui (Scalar.cmpi .slt (place c) 31#32)) 0#32 = 1#1 ↔ hasR c := by revert c; decide
theorem first_iff (c : Dev nD) : Scalar.cmpi .ne (Scalar.extui (Scalar.cmpi .eq (place c) 0#32)) 0#32 = 1#1 ↔ ¬ hasL c := by revert c; decide
theorem last_iff (c : Dev nD) : Scalar.cmpi .ne (Scalar.extui (Scalar.cmpi .eq (place c) 31#32)) 0#32 = 1#1 ↔ ¬ hasR c := by revert c; decide

/-! ### The cells -/

/-- The barrier semaphore; the semaphores of the transfer to the device after (0) and before (1), at their
    sources (`snd`); those of the arrival from the device before (0) and after (1) (`rcv`). -/
abbrev barS : Sem sig := (SemArray.scalar (sig.barrier 0 rfl) : Sems sig S_).sem
abbrev snd0 : DmaSem sig := ((cc0_scratch4.slice (Rect.unit (s := S2) ![0] S1.size inb_S2_S1_0)).squeeze S_ squeezes_S1_S_ : DmaSems sig S_).sem
abbrev snd1 : DmaSem sig := ((cc0_scratch4.slice (Rect.unit (s := S2) ![1] S1.size inb_S2_S1_1)).squeeze S_ squeezes_S1_S_ : DmaSems sig S_).sem
abbrev rcv0 : DmaSem sig := ((cc0_scratch5.slice (Rect.unit (s := S2) ![0] S1.size inb_S2_S1_0)).squeeze S_ squeezes_S1_S_ : DmaSems sig S_).sem
abbrev rcv1 : DmaSem sig := ((cc0_scratch5.slice (Rect.unit (s := S2) ![1] S1.size inb_S2_S1_1)).squeeze S_ squeezes_S1_S_ : DmaSems sig S_).sem

abbrev barCell (c : Dev nD) : GSem nD τ sig := ((c : Thread nD τ), .reg barS)
abbrev snd0Cell (c : Dev nD) : GSem nD τ sig := ((c : Thread nD τ), .dma snd0)
abbrev snd1Cell (c : Dev nD) : GSem nD τ sig := ((c : Thread nD τ), .dma snd1)
abbrev rcv0Cell (c : Dev nD) : GSem nD τ sig := ((c : Thread nD τ), .dma rcv0)
abbrev rcv1Cell (c : Dev nD) : GSem nD τ sig := ((c : Thread nD τ), .dma rcv1)

theorem bar_ne (q : DmaSem sig) : (SemLoc.dma q : SemLoc sig) ≠ .reg barS := fun h => by cases h
theorem snd0_ne_snd1 : (SemLoc.dma snd0 : SemLoc sig) ≠ .dma snd1 := by decide
theorem snd0_ne_rcv0 : (SemLoc.dma snd0 : SemLoc sig) ≠ .dma rcv0 := by decide
theorem snd0_ne_rcv1 : (SemLoc.dma snd0 : SemLoc sig) ≠ .dma rcv1 := by decide
theorem snd1_ne_rcv0 : (SemLoc.dma snd1 : SemLoc sig) ≠ .dma rcv0 := by decide
theorem snd1_ne_rcv1 : (SemLoc.dma snd1 : SemLoc sig) ≠ .dma rcv1 := by decide
theorem rcv0_ne_rcv1 : (SemLoc.dma rcv0 : SemLoc sig) ≠ .dma rcv1 := by decide

/-- The kernel's own (scoped) semaphores, and all the exchange's. -/
abbrev osem : Fin 4 → SemLoc sig := fun | 0 => .dma snd0 | 1 => .dma snd1 | 2 => .dma rcv0 | 3 => .dma rcv1
abbrev csem : Fin 5 → SemLoc sig := fun | 0 => .reg barS | 1 => .dma snd0 | 2 => .dma snd1 | 3 => .dma rcv0 | 4 => .dma rcv1
abbrev kcell (ck : Dev nD × Fin 5) : GSem nD τ sig := ((ck.1 : Thread nD τ), csem ck.2)

/-- What the transfer of a half counts for. -/
abbrev N : ℕ := (halo0 : Memref sig .tc .vmem S2x2x128x4x64 .bf16).view.dmaCredit
theorem N_pos : 0 < N := View.dmaCredit_pos _ (by decide)

/-! ### Contents -/

abbrev xAt (c : Dev nD) : Vec F S2x256x512 .f32 := m ((c : Thread nD τ).loc main_arg0)
abbrev wqAt (c : Dev nD) : Vec F S512x256 .f32 := m ((c : Thread nD τ).loc main_arg1)
abbrev kAt (c : Dev nD) : Vec F S2x256x4x64 .f32 := m ((c : Thread nD τ).loc main_arg2)
abbrev vAt (c : Dev nD) : Vec F S2x256x4x64 .f32 := m ((c : Thread nD τ).loc main_arg3)
abbrev woAt (c : Dev nD) : Vec F S256x512 .f32 := m ((c : Thread nD τ).loc main_arg4)

/-- The first and the last 128 rows of a block of keys or values. -/
abbrev rowsLo : Rect S2x256x4x64 := Rect.unit (s := S2x256x4x64) ![0, 0, 0, 0] S2x128x4x64.size inb_S2x256x4x64_S2x128x4x64_0_0_0_0
abbrev rowsHi : Rect S2x256x4x64 := Rect.unit (s := S2x256x4x64) ![0, 128, 0, 0] S2x128x4x64.size inb_S2x256x4x64_S2x128x4x64_0_128_0_0

abbrev kM : Memref sig .tc .vmem S2x256x4x64 .f32 := Memref.whole cc0_stg2_0
abbrev vM : Memref sig .tc .vmem S2x256x4x64 .f32 := Memref.whole cc0_stg3_0

/-- The first rows and the last rows, as loaded. -/
def lo (f : Vec F S2x256x4x64 .f32) : Vec F S2x128x4x64 .f32 := kM.view.readAt (Elt F) rowsLo.toLoadRect f
def hi (f : Vec F S2x256x4x64 .f32) : Vec F S2x128x4x64 .f32 := kM.view.readAt (Elt F) rowsHi.toLoadRect f

abbrev HaloC (c : Dev nD) : Type := Buf (Elt F) ((halo0 : Memref sig .tc .vmem S2x2x128x4x64 .bf16).view.loc (c : Thread nD τ))
abbrev SendC (c : Dev nD) : Type := Buf (Elt F) ((send0 : Memref sig .tc .vmem S2x2x128x4x64 .bf16).view.loc (c : Thread nD τ))

/-- A halo buffer's half 0 holds the last rows of the device before; its half 1 the first rows of the device
    after. -/
def FromL (c : Dev nD) (f : (cc0_scratch0 : Ref sig .tc).ty.Contents (Elt F)) : Prop :=
  haloM.view.readAt (Elt F) rect00.toLoadRect f = k0_pay4 (hi (kAt m (prv c)))
    ∧ haloM.view.readAt (Elt F) rect01.toLoadRect f = k0_pay5 (hi (vAt m (prv c)))
def FromR (c : Dev nD) (f : (cc0_scratch0 : Ref sig .tc).ty.Contents (Elt F)) : Prop :=
  haloM.view.readAt (Elt F) rect10.toLoadRect f = k0_pay2 (lo (kAt m (nxt c)))
    ∧ haloM.view.readAt (Elt F) rect11.toLoadRect f = k0_pay3 (lo (vAt m (nxt c)))

def halo0At (c : Dev nD) (f : HaloC (F := F) c) : sProp 𝕄 :=
  (halo0 : Memref sig .tc .vmem S2x2x128x4x64 .bf16).view.loc (c : Thread nD τ) ↦[(halo0 : Memref sig .tc .vmem S2x2x128x4x64 .bf16).view.set]{fullShare} f
def halo1At (c : Dev nD) (f : HaloC (F := F) c) : sProp 𝕄 :=
  (halo1 : Memref sig .tc .vmem S2x2x128x4x64 .bf16).view.loc (c : Thread nD τ) ↦[(halo1 : Memref sig .tc .vmem S2x2x128x4x64 .bf16).view.set]{fullShare} f
def send0At (c : Dev nD) (f : SendC (F := F) c) : sProp 𝕄 :=
  (send0 : Memref sig .tc .vmem S2x2x128x4x64 .bf16).view.loc (c : Thread nD τ) ↦[(send0 : Memref sig .tc .vmem S2x2x128x4x64 .bf16).view.set]{fullShare} f
def send1At (c : Dev nD) (f : SendC (F := F) c) : sProp 𝕄 :=
  (send1 : Memref sig .tc .vmem S2x2x128x4x64 .bf16).view.loc (c : Thread nD τ) ↦[(send1 : Memref sig .tc .vmem S2x2x128x4x64 .bf16).view.set]{fullShare} f

instance halo0At_storable (c : Dev nD) (f) : BI.Storable (upEmb : UEmb _ 𝕄) (halo0At (F := F) c f) := by unfold halo0At; infer_instance
instance halo1At_storable (c : Dev nD) (f) : BI.Storable (upEmb : UEmb _ 𝕄) (halo1At (F := F) c f) := by unfold halo1At; infer_instance
instance send0At_storable (c : Dev nD) (f) : BI.Storable (upEmb : UEmb _ 𝕄) (send0At (F := F) c f) := by unfold send0At; infer_instance
instance send1At_storable (c : Dev nD) (f) : BI.Storable (upEmb : UEmb _ 𝕄) (send1At (F := F) c f) := by unfold send1At; infer_instance

/-- The halo buffer is its two halves; -/
theorem halo_halves (c : Dev nD) (f : HaloC (F := F) c) :
    (((c : Thread nD τ).loc cc0_scratch0) ↦{fullShare} f : sProp 𝕄) ⊣⊢ iprop(halo0At c f ∗ halo1At c f) := by
  unfold halo0At halo1At
  rw [set_halo0, set_halo1]
  have h := pointsTo_union (Ix := Unit) (Name := ℕ) (U := UU) (Lvl := ℕ) (ℓ := (c : Thread nD τ).loc cc0_scratch0) (q := fullShare) (f := f) halves_disjoint
  rw [halves_union] at h
  exact h

/-- so is the outgoing buffer. -/
theorem send_halves (c : Dev nD) (f : SendC (F := F) c) :
    (((c : Thread nD τ).loc cc0_scratch1) ↦{fullShare} f : sProp 𝕄) ⊣⊢ iprop(send0At c f ∗ send1At c f) := by
  unfold send0At send1At
  rw [set_send0, set_send1]
  have h := pointsTo_union (Ix := Unit) (Name := ℕ) (U := UU) (Lvl := ℕ) (ℓ := (c : Thread nD τ).loc cc0_scratch1) (q := fullShare) (f := f) halves_disjoint
  rw [halves_union] at h
  exact h

/-! ### The schedule -/

/-- What a unit on `c`'s barrier cell from the device before lends (that device's half 1), and from the device
    after (that one's half 0). -/
def barPayL (c : Dev nD) : sProp 𝕄 := iprop(∃ f, halo1At (prv c) f)
def barPayR (c : Dev nD) : sProp 𝕄 := iprop(∃ f, halo0At (nxt c) f)
def rcv0Pay (c : Dev nD) : sProp 𝕄 := iprop(∃ f, ⌜FromL m c f⌝ ∗ halo0At c f)
def rcv1Pay (c : Dev nD) : sProp 𝕄 := iprop(∃ f, ⌜FromR m c f⌝ ∗ halo1At c f)
def snd0Pay (c : Dev nD) : sProp 𝕄 := iprop(∃ f, send1At c f)
def snd1Pay (c : Dev nD) : sProp 𝕄 := iprop(∃ f, send0At c f)

/-- The duties of a device's cell: on the barrier, `false` from the device before and `true` from the one after;
    on each transfer cell, `false`, if the transfer happens. -/
def dutiesOf (c : Dev nD) (sm : SemLoc sig) : Finset Bool :=
  if sm = .reg barS then (if hasL c then {false} else ∅) ∪ (if hasR c then {true} else ∅)
  else if sm = .dma snd0 ∨ sm = .dma rcv1 then (if hasR c then {false} else ∅)
  else if sm = .dma snd1 ∨ sm = .dma rcv0 then (if hasL c then {false} else ∅)
  else ∅

def rd : Rounds.Schedule (GSem nD τ sig) Bool 𝕄 where
  duties g r := if r = 0 ∧ g.1.2 = .tc then dutiesOf g.1.1 g.2 else ∅
  unitless _ := False
  amount g _ _ := if g.2 = .reg barS then 1 else N
  payload g _ d :=
    if g.2 = .reg barS then (if d then barPayR g.1.1 else barPayL g.1.1)
    else if g.2 = .dma snd0 then snd0Pay g.1.1
    else if g.2 = .dma snd1 then snd1Pay g.1.1
    else if g.2 = .dma rcv0 then rcv0Pay m g.1.1
    else if g.2 = .dma rcv1 then rcv1Pay m g.1.1
    else iprop(emp)
  amount_pos g _ _ _ := by
    by_cases h : g.2 = .reg barS
    · rw [if_pos h]; exact Nat.one_pos
    · rw [if_neg h]; exact N_pos

instance rd_payload_storable (g : GSem nD τ sig) (r : ℕ) (d : Bool) :
    BI.Storable (upEmb : UEmb _ 𝕄) ((rd (F := F) m).payload g r d) := by
  show BI.Storable upEmb (if g.2 = .reg barS then (if d then barPayR g.1.1 else barPayL g.1.1)
    else if g.2 = .dma snd0 then snd0Pay g.1.1 else if g.2 = .dma snd1 then snd1Pay g.1.1
    else if g.2 = .dma rcv0 then rcv0Pay m g.1.1 else if g.2 = .dma rcv1 then rcv1Pay m g.1.1 else iprop(emp))
  unfold barPayR barPayL snd0Pay snd1Pay rcv0Pay rcv1Pay
  (repeat' split) <;> infer_instance

section Table
variable (c : Dev nD)

theorem duties_bar : (rd (F := F) m).duties (barCell c) 0 = (if hasL c then {false} else ∅) ∪ (if hasR c then {true} else ∅) := by
  dsimp only [rd]; rw [if_pos ⟨rfl, rfl⟩]; exact if_pos rfl
theorem duties_snd0 : (rd (F := F) m).duties (snd0Cell c) 0 = if hasR c then {false} else ∅ := by
  dsimp only [rd]; rw [if_pos ⟨rfl, rfl⟩]; unfold dutiesOf; rw [if_neg (bar_ne _), if_pos (Or.inl rfl)]
theorem duties_rcv1 : (rd (F := F) m).duties (rcv1Cell c) 0 = if hasR c then {false} else ∅ := by
  dsimp only [rd]; rw [if_pos ⟨rfl, rfl⟩]; unfold dutiesOf; rw [if_neg (bar_ne _), if_pos (Or.inr rfl)]
theorem duties_snd1 : (rd (F := F) m).duties (snd1Cell c) 0 = if hasL c then {false} else ∅ := by
  dsimp only [rd]; rw [if_pos ⟨rfl, rfl⟩]; unfold dutiesOf
  rw [if_neg (bar_ne _), if_neg (fun h => h.elim (fun h => snd0_ne_snd1 h.symm) snd1_ne_rcv1), if_pos (Or.inl rfl)]
theorem duties_rcv0 : (rd (F := F) m).duties (rcv0Cell c) 0 = if hasL c then {false} else ∅ := by
  dsimp only [rd]; rw [if_pos ⟨rfl, rfl⟩]; unfold dutiesOf
  rw [if_neg (bar_ne _), if_neg (fun h => h.elim (fun h => snd0_ne_rcv0 h.symm) rcv0_ne_rcv1), if_pos (Or.inr rfl)]
theorem duties_later (g : GSem nD τ sig) : ∀ r, 1 ≤ r → (rd (F := F) m).duties g r = ∅ :=
  fun r hr => by dsimp only [rd]; rw [if_neg fun h => by omega]

theorem amount_bar (d : Bool) : (rd (F := F) m).amount (barCell c) 0 d = 1 := by dsimp only [rd]; exact if_pos rfl
theorem amount_dma (q : DmaSem sig) (d : Bool) : (rd (F := F) m).amount ((c : Thread nD τ), .dma q) 0 d = N := by dsimp only [rd]; exact if_neg (bar_ne q)

theorem payload_bar_false : (rd (F := F) m).payload (barCell c) 0 false = barPayL c := by
  dsimp only [rd]; rw [if_pos rfl]; exact if_neg Bool.false_ne_true
theorem payload_bar_true : (rd (F := F) m).payload (barCell c) 0 true = barPayR c := by
  dsimp only [rd]; rw [if_pos rfl, if_pos rfl]
theorem payload_snd0 (d : Bool) : (rd (F := F) m).payload (snd0Cell c) 0 d = snd0Pay c := by
  dsimp only [rd]; rw [if_neg (bar_ne _), if_pos rfl]
theorem payload_snd1 (d : Bool) : (rd (F := F) m).payload (snd1Cell c) 0 d = snd1Pay c := by
  dsimp only [rd]; rw [if_neg (bar_ne _), if_neg snd0_ne_snd1.symm, if_pos rfl]
theorem payload_rcv0 (d : Bool) : (rd (F := F) m).payload (rcv0Cell c) 0 d = rcv0Pay m c := by
  dsimp only [rd]; rw [if_neg (bar_ne _), if_neg snd0_ne_rcv0.symm, if_neg snd1_ne_rcv0.symm, if_pos rfl]
theorem payload_rcv1 (d : Bool) : (rd (F := F) m).payload (rcv1Cell c) 0 d = rcv1Pay m c := by
  dsimp only [rd]; rw [if_neg (bar_ne _), if_neg snd0_ne_rcv1.symm, if_neg snd1_ne_rcv1.symm, if_neg rcv0_ne_rcv1.symm, if_pos rfl]

theorem expect_of_single {g : GSem nD τ sig} {d : Bool} (h : (rd (F := F) m).duties g 0 = {d}) :
    (rd (F := F) m).expect g 0 = (rd (F := F) m).amount g 0 d := by
  unfold Schedule.expect Schedule.amountOf; rw [h, Finset.sum_singleton]

end Table

/-! ### What is owed, and the levels -/

/-- Device `c` owes: an arrival at the device before, an arrival at the device after, a unit to the device after, a
    unit to the device before; each if there is such a device. -/
def owedA (c : Dev nD) : CellTallies nD τ sig Unit := if hasL c then tallyAt (rcv1Cell (prv c)) () N else 0
def owedB (c : Dev nD) : CellTallies nD τ sig Unit := if hasR c then tallyAt (rcv0Cell (nxt c)) () N else 0
def owedC (c : Dev nD) : CellTallies nD τ sig Unit := if hasR c then tallyAt (barCell (nxt c)) () 1 else 0
def owedD (c : Dev nD) : CellTallies nD τ sig Unit := if hasL c then tallyAt (barCell (prv c)) () 1 else 0
def O₁ (c : Dev nD) : CellTallies nD τ sig Unit := owedA c + owedB c
def O₀ (c : Dev nD) : CellTallies nD τ sig Unit := O₁ c + owedC c + owedD c

def L (g : GSem nD τ sig) : Finset Unit := if g.1.2 = .tc then {()} else ∅
/-- Barrier cells at 1, arrival cells at 2, every other at 0. -/
def lv (g : GSem nD τ sig) (_ : Unit) : ℕ := if g.2 = .reg barS then 1 else if g.2 = .dma rcv0 ∨ g.2 = .dma rcv1 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_rcv0 (c : Dev nD) : lv (rcv0Cell c) () = 2 := by unfold lv; rw [if_neg (bar_ne _), if_pos (Or.inl rfl)]
theorem lv_rcv1 (c : Dev nD) : lv (rcv1Cell c) () = 2 := by unfold lv; rw [if_neg (bar_ne _), if_pos (Or.inr rfl)]

theorem pos_of_guard {p : Prop} [Decidable p] {g g' : GSem nD τ sig} {k : ℕ} {u : Unit}
    (h : 0 < (if p then tallyAt g' () k else (0 : CellTallies nD τ sig Unit)) g u) : g = g' := by
  by_cases hp : p
  · rw [if_pos hp, tallyAt_apply] at h
    by_contra hn
    rw [if_neg (fun h' => hn h'.1)] at h; exact Nat.lt_irrefl 0 h
  · rw [if_neg hp] at h; exact absurd h (Nat.lt_irrefl 0)

theorem O₁_pos {c : Dev nD} {g : GSem nD τ sig} {u : Unit} (h : 0 < O₁ c g u) : g = rcv1Cell (prv c) ∨ g = rcv0Cell (nxt c) := by
  unfold O₁ owedA owedB at h
  rw [Pi.add_apply, Finsupp.add_apply] at h
  rcases Nat.add_pos_iff_pos_or_pos.mp h with h | h
  · exact Or.inl (pos_of_guard h)
  · exact Or.inr (pos_of_guard h)

theorem O₀_pos {c : Dev nD} {g : GSem nD τ sig} {u : Unit} (h : 0 < O₀ c g u) :
    (g = rcv1Cell (prv c) ∨ g = rcv0Cell (nxt c)) ∨ g = barCell (nxt c) ∨ g = barCell (prv c) := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · exact Or.inl (O₁_pos h)
    · exact Or.inr (Or.inl (pos_of_guard h))
  · exact Or.inr (Or.inr (pos_of_guard h))

/-- The pipeline's own waits are below everything owed. -/
theorem mayWait_stage (c : Dev nD) (q : DmaSem sig) (hq : SemLoc.dma q ≠ .dma rcv0 ∧ SemLoc.dma q ≠ .dma rcv1) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with (rfl | rfl) | rfl | rfl <;> exact Finset.mem_singleton_self _)
      (fun p hp => by
        rw [Finset.mem_singleton.mp hp]; dsimp only [lv]; rw [if_neg (bar_ne q), if_neg (fun h => h.elim hq.1 hq.2)])
      (fun g u hg => by
        cases u
        rcases O₀_pos hg with (rfl | rfl) | rfl | rfl
        · rw [lv_rcv1]; decide
        · rw [lv_rcv0]; decide
        · rw [lv_bar]; decide
        · rw [lv_bar]; decide)
  · rw [MayWait_zero]; iintro -; iempintro

/-- At its barrier a device owes arrivals only, which are above. -/
theorem mayOwe_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; dsimp only [lv]; rw [if_pos rfl])
    (fun g u hg => by
      cases u
      rcases O₁_pos hg with rfl | rfl
      · rw [lv_rcv1]; decide
      · rw [lv_rcv0]; decide)

end Cert.KernelIdeal.Halo

end
-- ==== Proof.RunIdeal.Pieces.lean ====
/-
The kernel's program in pieces.

Each piece that talks to a neighbour is conditioned on there being one. Here these pieces are named, with the
kernel's computed conditions and device numbers replaced by `hasL`, `hasR`, `prv` and `nxt`, and the
generated parts of the program are rewritten as sequences of pieces.
-/
module

public import proofs.«01_k».proof.Proof.RunIdeal.Protocol

@[expose] public section

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- A unit to the device before, and to the device after. -/
def sigL (c : Dev nD) : Prog (TpuEff nD τ sig (Elt F) Λ₀ .tc) PUnit := if hasL c then semSignalWord (prv c) barS 1#32 else pure ⟨⟩
def sigR (c : Dev nD) : Prog (TpuEff nD τ sig (Elt F) Λ₀ .tc) PUnit := if hasR c then semSignalWord (nxt c) barS 1#32 else pure ⟨⟩

/-- The first rows of keys and values into half 0 of the outgoing buffer, the last into half 1. -/
def stageLo : Prog (TpuEff nD τ sig (Elt F) Λ₀ .tc) PUnit := do
  let v12 : Vec F S2x128x4x64 .f32 ← Prog.lift (.load kM rowsLo.toLoadRect (View.loadsAt_vmem h_S2x128x4x64))
  let _v15 : Vec F S1x1x2x128x4x64 .bf16 ← Prog.lift (.load sendM rect00.toLoadRect (View.loadsAt_vmem h_S1x1x2x128x4x64))
  Prog.lift (.store sendM rect00 (k0_pay2 v12) Finset.univ (View.stores_vmem h_S1x1x2x128x4x64 ((Memref.isWhole_whole _ : (Memref.whole cc0_scratch1).IsWhole).storeExact_slice rfl _ packedbf16_S2x2x2x128x4x64_S1x1x2x128x4x64_0_0_0_0_0_0) (fun _ => rfl)) (.inl rfl))
  let v18 : Vec F S2x128x4x64 .f32 ← Prog.lift (.load vM rowsLo.toLoadRect (View.loadsAt_vmem h_S2x128x4x64))
  let _v21 : Vec F S1x1x2x128x4x64 .bf16 ← Prog.lift (.load sendM rect01.toLoadRect (View.loadsAt_vmem h_S1x1x2x128x4x64))
  Prog.lift (.store sendM rect01 (k0_pay3 v18) Finset.univ (View.stores_vmem h_S1x1x2x128x4x64 ((Memref.isWhole_whole _ : (Memref.whole cc0_scratch1).IsWhole).storeExact_slice rfl _ packedbf16_S2x2x2x128x4x64_S1x1x2x128x4x64_0_1_0_0_0_0) (fun _ => rfl)) (.inl rfl))
def stageHi : Prog (TpuEff nD τ sig (Elt F) Λ₀ .tc) PUnit := do
  let v24 : Vec F S2x128x4x64 .f32 ← Prog.lift (.load kM rowsHi.toLoadRect (View.loadsAt_vmem h_S2x128x4x64))
  let _v27 : Vec F S1x1x2x128x4x64 .bf16 ← Prog.lift (.load sendM rect10.toLoadRect (View.loadsAt_vmem h_S1x1x2x128x4x64))
  Prog.lift (.store sendM rect10 (k0_pay4 v24) Finset.univ (View.stores_vmem h_S1x1x2x128x4x64 ((Memref.isWhole_whole _ : (Memref.whole cc0_scratch1).IsWhole).storeExact_slice rfl _ packedbf16_S2x2x2x128x4x64_S1x1x2x128x4x64_1_0_0_0_0_0) (fun _ => rfl)) (.inl rfl))
  let v30 : Vec F S2x128x4x64 .f32 ← Prog.lift (.load vM rowsHi.toLoadRect (View.loadsAt_vmem h_S2x128x4x64))
  let _v33 : Vec F S1x1x2x128x4x64 .bf16 ← Prog.lift (.load sendM rect11.toLoadRect (View.loadsAt_vmem h_S1x1x2x128x4x64))
  Prog.lift (.store sendM rect11 (k0_pay5 v30) Finset.univ (View.stores_vmem h_S1x1x2x128x4x64 ((Memref.isWhole_whole _ : (Memref.whole cc0_scratch1).IsWhole).storeExact_slice rfl _ packedbf16_S2x2x2x128x4x64_S1x1x2x128x4x64_1_1_0_0_0_0) (fun _ => rfl)) (.inl rfl))

/-- A wait for a unit, if there is a device before; if there is one after. -/
def waitL (c : Dev nD) : Prog (TpuEff nD τ sig (Elt F) Λ₀ .tc) PUnit := if hasL c then semWaitWord barS 1#32 else pure ⟨⟩
def waitR (c : Dev nD) : Prog (TpuEff nD τ sig (Elt F) Λ₀ .tc) PUnit := if hasR c then semWaitWord barS 1#32 else pure ⟨⟩

/-- The transfer to a device `n` as its device before, and as its device after. -/
def sendUp (n : Dev nD) : Prog (TpuEff nD τ sig (Elt F) Λ₀ .tc) PUnit :=
  Prog.lift (.enqueueDma send1 (.remote (Dev.tc n) halo0 (.dma snd0)) (.dma rcv0) ((((Memref.isWhole_whole _ : (Memref.whole cc0_scratch1).IsWhole)).wordExact_slice rfl _ wordsbf16_S2x2x2x128x4x64_S1x2x2x128x4x64_1_0_0_0_0_0).reshape _ _) ((((Memref.isWhole_whole _ : (Memref.whole cc0_scratch0).IsWhole)).wordExact_slice rfl _ wordsbf16_S2x2x2x128x4x64_S1x2x2x128x4x64_0_0_0_0_0_0).reshape _ _) ⟨⟨rfl, Or.inl rfl⟩, trivial⟩)
def sendDown (n : Dev nD) : Prog (TpuEff nD τ sig (Elt F) Λ₀ .tc) PUnit :=
  Prog.lift (.enqueueDma send0 (.remote (Dev.tc n) halo1 (.dma snd1)) (.dma rcv1) ((((Memref.isWhole_whole _ : (Memref.whole cc0_scratch1).IsWhole)).wordExact_slice rfl _ wordsbf16_S2x2x2x128x4x64_S1x2x2x128x4x64_0_0_0_0_0_0).reshape _ _) ((((Memref.isWhole_whole _ : (Memref.whole cc0_scratch0).IsWhole)).wordExact_slice rfl _ wordsbf16_S2x2x2x128x4x64_S1x2x2x128x4x64_1_0_0_0_0_0).reshape _ _) ⟨⟨rfl, Or.inl rfl⟩, trivial⟩)
def sendR (c : Dev nD) : Prog (TpuEff nD τ sig (Elt F) Λ₀ .tc) PUnit := if hasR c then sendUp (nxt c) else pure ⟨⟩
def sendL (c : Dev nD) : Prog (TpuEff nD τ sig (Elt F) Λ₀ .tc) PUnit := if hasL c then sendDown (prv c) else pure ⟨⟩

/-- Zero values where no neighbour writes. -/
def zeroL (c : Dev nD) : Prog (TpuEff nD τ sig (Elt F) Λ₀ .tc) PUnit := if hasL c then pure ⟨⟩ else do
  let _v559 : Vec F S1x1x2x128x4x64 .bf16 ← Prog.lift (.load haloM rect01.toLoadRect (View.loadsAt_vmem h_S1x1x2x128x4x64))
  Prog.lift (.store haloM rect01 (k0_pay6 (F := F)) Finset.univ (View.stores_vmem h_S1x1x2x128x4x64 ((Memref.isWhole_whole _ : (Memref.whole cc0_scratch0).IsWhole).storeExact_slice rfl _ packedbf16_S2x2x2x128x4x64_S1x1x2x128x4x64_0_1_0_0_0_0) (fun _ => rfl)) (.inl rfl))
def zeroR (c : Dev nD) : Prog (TpuEff nD τ sig (Elt F) Λ₀ .tc) PUnit := if hasR c then pure ⟨⟩ else do
  let _v559 : Vec F S1x1x2x128x4x64 .bf16 ← Prog.lift (.load haloM rect11.toLoadRect (View.loadsAt_vmem h_S1x1x2x128x4x64))
  Prog.lift (.store haloM rect11 (k0_pay7 (F := F)) Finset.univ (View.stores_vmem h_S1x1x2x128x4x64 ((Memref.isWhole_whole _ : (Memref.whole cc0_scratch0).IsWhole).storeExact_slice rfl _ packedbf16_S2x2x2x128x4x64_S1x1x2x128x4x64_1_1_0_0_0_0) (fun _ => rfl)) (.inl rfl))

/-- The waits for the arrival from the device before and the departure to it; and after. -/
def recvL (c : Dev nD) : Prog (TpuEff nD τ sig (Elt F) Λ₀ .tc) PUnit := if hasL c then do
  Prog.lift (.waitDma2 rcv0 send1 halo0 ((((Memref.isWhole_whole _ : (Memref.whole cc0_scratch1).IsWhole)).wordExact_slice rfl _ wordsbf16_S2x2x2x128x4x64_S1x2x2x128x4x64_1_0_0_0_0_0).reshape _ _) ((((Memref.isWhole_whole _ : (Memref.whole cc0_scratch0).IsWhole)).wordExact_slice rfl _ wordsbf16_S2x2x2x128x4x64_S1x2x2x128x4x64_0_0_0_0_0_0).reshape _ _))
  Prog.lift (.waitDma2 snd1 halo1 send0 ((((Memref.isWhole_whole _ : (Memref.whole cc0_scratch0).IsWhole)).wordExact_slice rfl _ wordsbf16_S2x2x2x128x4x64_S1x2x2x128x4x64_1_0_0_0_0_0).reshape _ _) ((((Memref.isWhole_whole _ : (Memref.whole cc0_scratch1).IsWhole)).wordExact_slice rfl _ wordsbf16_S2x2x2x128x4x64_S1x2x2x128x4x64_0_0_0_0_0_0).reshape _ _)) else pure ⟨⟩
def recvR (c : Dev nD) : Prog (TpuEff nD τ sig (Elt F) Λ₀ .tc) PUnit := if hasR c then do
  Prog.lift (.waitDma2 rcv1 send0 halo1 ((((Memref.isWhole_whole _ : (Memref.whole cc0_scratch1).IsWhole)).wordExact_slice rfl _ wordsbf16_S2x2x2x128x4x64_S1x2x2x128x4x64_0_0_0_0_0_0).reshape _ _) ((((Memref.isWhole_whole _ : (Memref.whole cc0_scratch0).IsWhole)).wordExact_slice rfl _ wordsbf16_S2x2x2x128x4x64_S1x2x2x128x4x64_1_0_0_0_0_0).reshape _ _))
  Prog.lift (.waitDma2 snd0 halo0 send1 ((((Memref.isWhole_whole _ : (Memref.whole cc0_scratch0).IsWhole)).wordExact_slice rfl _ wordsbf16_S2x2x2x128x4x64_S1x2x2x128x4x64_0_0_0_0_0_0).reshape _ _) ((((Memref.isWhole_whole _ : (Memref.whole cc0_scratch1).IsWhole)).wordExact_slice rfl _ wordsbf16_S2x2x2x128x4x64_S1x2x2x128x4x64_1_0_0_0_0_0).reshape _ _)) else pure ⟨⟩

/-! ### The generated parts in pieces -/

set_option maxRecDepth 20000

theorem part1_eq : k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5
    = (do let d0 : Dev nD ← Prog.lift .deviceId
          sigL d0; sigR d0; stageLo
          pure ⟨d0, place d0, Scalar.subi (place d0) 1#32, Scalar.addi (place d0) 1#32, SemArray.scalar (sig.barrier 0 rfl)⟩) := by
  rw [k0_part1_eq_skeleton]; unfold k0_part1_skel
  refine congrArg (Bind.bind _) (funext fun d0 => ?_)
  unfold sigL sigR stageLo
  by_cases h1 : k0_cond1 d0 = 1#1 <;> by_cases h2 : k0_cond2 d0 = 1#1
  · simp only [dif_pos h1, dif_pos h2, if_pos ((cond1_iff d0).1 h1), if_pos ((cond2_iff d0).1 h2), dev1_eq d0 h1, dev2_eq d0 h2]; rfl
  · simp only [dif_pos h1, dif_neg h2, if_pos ((cond1_iff d0).1 h1), if_neg (fun h => h2 ((cond2_iff d0).2 h)), dev1_eq d0 h1]; rfl
  · simp only [dif_neg h1, dif_pos h2, if_neg (fun h => h1 ((cond1_iff d0).2 h)), if_pos ((cond2_iff d0).1 h2), dev2_eq d0 h2]; rfl
  · simp only [dif_neg h1, dif_neg h2, if_neg (fun h => h1 ((cond1_iff d0).2 h)), if_neg (fun h => h2 ((cond2_iff d0).2 h))]; rfl

/-- Every device has a neighbour. -/
theorem hasL_or_hasR (c : Dev nD) : hasL c ∨ hasR c := by revert c; decide

theorem part2_eq (c : Dev nD) (v3 v4 : BitVec 32) : k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c (place c) v3 v4 (SemArray.scalar (sig.barrier 0 rfl))
    = (do stageHi; waitL c; waitR c; sendR c; sendL c
          pure (Scalar.cmpi .ne (Scalar.extui (Scalar.cmpi .eq (place c) 0#32)) 0#32)) := by
  rw [k0_part2_eq_skeleton]; unfold k0_part2_skel
  unfold waitL waitR sendR sendL stageHi
  by_cases hL : hasL c <;> by_cases hR : hasR c
  · simp only [dif_pos ((gt_iff c).2 hL), dif_pos ((lt_iff c).2 hR), dif_pos ((cond5_iff c).2 hR), dif_pos ((cond6_iff c).2 hL), if_pos hL, if_pos hR]
    rw [← dev3_eq c ((cond5_iff c).2 hR), ← dev4_eq c ((cond6_iff c).2 hL)]; rfl
  · simp only [dif_pos ((gt_iff c).2 hL), dif_neg (fun h => hR ((lt_iff c).1 h)), dif_neg (fun h => hR ((cond5_iff c).1 h)), dif_pos ((cond6_iff c).2 hL), if_pos hL, if_neg hR]
    rw [← dev4_eq c ((cond6_iff c).2 hL)]; rfl
  · simp only [dif_neg (fun h => hL ((gt_iff c).1 h)), dif_pos ((lt_iff c).2 hR), dif_pos ((cond5_iff c).2 hR), dif_neg (fun h => hL ((cond6_iff c).1 h)), if_neg hL, if_pos hR]
    rw [← dev3_eq c ((cond5_iff c).2 hR)]; rfl
  · exact absurd (hasL_or_hasR c) (fun h => h.elim hL hR)

/-- The centre of the window: keys and values in the compute type, and the queries. -/
def centre : Prog (TpuEff nD τ sig (Elt F) Λ₀ .tc) (Σ' (v75 : FVec F S2x256x4x64 .bf16), IVec S256x256 1) := do
  let v54 : Vec F S2x256x4x64 .f32 ← Prog.lift (.load (Memref.whole cc0_stg2_0) (Rect.unit (s := S2x256x4x64) ![0, 0, 0, 0] S2x256x4x64.size inb_S2x256x4x64_S2x256x4x64_0_0_0_0).toLoadRect (View.loadsAt_vmem h_S2x256x4x64))
  let v57 : Vec F S2x256x4x64 .bf16 ← Prog.lift (.load (Memref.whole cc0_scratch2) (Rect.unit (s := S2x256x4x64) ![0, 0, 0, 0] S2x256x4x64.size inb_S2x256x4x64_S2x256x4x64_0_0_0_0).toLoadRect (View.loadsAt_vmem h_S2x256x4x64))
  Prog.lift (.store (Memref.whole cc0_scratch2) (Rect.unit (s := S2x256x4x64) ![0, 0, 0, 0] S2x256x4x64.size inb_S2x256x4x64_S2x256x4x64_0_0_0_0) (k0_pay8 v54) Finset.univ (View.stores_vmem h_S2x256x4x64 ((Memref.isWhole_whole _ : (Memref.whole cc0_scratch2).IsWhole).storeExact_slice rfl _ packedbf16_S2x256x4x64_S2x256x4x64_0_0_0_0) (fun _ => rfl)) (.inl rfl))
  let v60 : Vec F S2x256x4x64 .f32 ← Prog.lift (.load (Memref.whole cc0_stg3_0) (Rect.unit (s := S2x256x4x64) ![0, 0, 0, 0] S2x256x4x64.size inb_S2x256x4x64_S2x256x4x64_0_0_0_0).toLoadRect (View.loadsAt_vmem h_S2x256x4x64))
  let v63 : Vec F S2x256x4x64 .bf16 ← Prog.lift (.load (Memref.whole cc0_scratch3) (Rect.unit (s := S2x256x4x64) ![0, 0, 0, 0] S2x256x4x64.size inb_S2x256x4x64_S2x256x4x64_0_0_0_0).toLoadRect (View.loadsAt_vmem h_S2x256x4x64))
  Prog.lift (.store (Memref.whole cc0_scratch3) (Rect.unit (s := S2x256x4x64) ![0, 0, 0, 0] S2x256x4x64.size inb_S2x256x4x64_S2x256x4x64_0_0_0_0) (k0_pay9 v60) Finset.univ (View.stores_vmem h_S2x256x4x64 ((Memref.isWhole_whole _ : (Memref.whole cc0_scratch3).IsWhole).storeExact_slice rfl _ packedbf16_S2x256x4x64_S2x256x4x64_0_0_0_0) (fun _ => rfl)) (.inl rfl))
  let v66 : Vec F S2x256x512 .f32 ← Prog.lift (.load (Memref.whole cc0_stg0_0) (Rect.unit (s := S2x256x512) ![0, 0, 0] S2x256x512.size inb_S2x256x512_S2x256x512_0_0_0).toLoadRect (View.loadsAt_vmem h_S2x256x512))
  let v70 : Vec F S512x256 .f32 ← Prog.lift (.load (Memref.whole cc0_stg1_0) (Rect.unit (s := S512x256) ![0, 0] S512x256.size inb_S512x256_S512x256_0_0).toLoadRect (View.loadsAt_vmem h_S512x256))
  pure ⟨k0_pay10 v66 v70, k0_pay11⟩

theorem part3_eq (c : Dev nD) : k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (place c) (Scalar.cmpi .ne (Scalar.extui (Scalar.cmpi .eq (place c) 0#32)) 0#32)
    = (do zeroL c; zeroR c; centre) := by
  rw [k0_part3_eq_skeleton]; unfold k0_part3_skel
  unfold zeroL zeroR centre
  by_cases hL : hasL c <;> by_cases hR : hasR c
  · simp only [dif_neg (fun h => (first_iff c).1 h hL), dif_neg (fun h => (last_iff c).1 h hR), if_pos hL, if_pos hR]; rfl
  · simp only [dif_neg (fun h => (first_iff c).1 h hL), dif_pos ((last_iff c).2 hR), if_pos hL, if_neg hR]; rfl
  · simp only [dif_pos ((first_iff c).2 hL), dif_neg (fun h => (last_iff c).1 h hR), if_neg hL, if_pos hR]; rfl
  · exact absurd (hasL_or_hasR c) (fun h => h.elim hL hR)

/-- What the tail of the window's exchange reads: the four quarters of the halo buffer. -/
def quarters : Prog (TpuEff nD τ sig (Elt F) Λ₀ .tc) (Σ' (q00 : Vec F S1x1x2x128x4x64 .bf16) (q01 : Vec F S1x1x2x128x4x64 .bf16) (q10 : Vec F S1x1x2x128x4x64 .bf16), Vec F S1x1x2x128x4x64 .bf16) := do
  let v228 : Vec F S1x1x2x128x4x64 .bf16 ← Prog.lift (.load haloM rect00.toLoadRect (View.loadsAt_vmem h_S1x1x2x128x4x64))
  let v230 : Vec F S1x1x2x128x4x64 .bf16 ← Prog.lift (.load haloM rect01.toLoadRect (View.loadsAt_vmem h_S1x1x2x128x4x64))
  let v232 : Vec F S1x1x2x128x4x64 .bf16 ← Prog.lift (.load haloM rect10.toLoadRect (View.loadsAt_vmem h_S1x1x2x128x4x64))
  let v234 : Vec F S1x1x2x128x4x64 .bf16 ← Prog.lift (.load haloM rect11.toLoadRect (View.loadsAt_vmem h_S1x1x2x128x4x64))
  pure ⟨v228, v230, v232, v234⟩

theorem part7_eq (c : Dev nD) (v3 v4 : BitVec 32) (v75 : FVec F S2x256x4x64 .bf16) (v81 : IVec S256x256 1) (v93 : Vec F S2x256x4x64 .bf16) (v212 v213 : FVec F S256x256 .f32) :
    k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (place c) v3 v4 v75 v81 v93 v212 v213
    = (do recvL c; recvR c
          let q ← quarters
          pure ⟨k0_pay39 v81 v212 v213, k0_pay40 v81 v93 v212 v213, k0_pay41 q.1, k0_pay42 q.2.1, k0_pay43 q.2.2.1, k0_pay44 q.2.2.2, k0_pay45 v75 q.1⟩) := by
  rw [k0_part7_eq_skeleton]; unfold k0_part7_skel
  unfold recvL recvR quarters
  by_cases hL : hasL c <;> by_cases hR : hasR c
  · simp only [dif_pos ((gt_iff c).2 hL), dif_pos ((lt_iff c).2 hR), if_pos hL, if_pos hR]; rfl
  · simp only [dif_pos ((gt_iff c).2 hL), dif_neg (fun h => hR ((lt_iff c).1 h)), if_pos hL, if_neg hR]; rfl
  · simp only [dif_neg (fun h => hL ((gt_iff c).1 h)), dif_pos ((lt_iff c).2 hR), if_neg hL, if_pos hR]; rfl
  · exact absurd (hasL_or_hasR c) (fun h => h.elim hL hR)

end Cert.KernelIdeal.Halo

end
-- ==== Proof.RunIdeal.Steps.lean ====
/-
The pieces that talk, each as one step.

For every piece of the program that signals, waits, sends or receives there is a lemma: from what the piece needs it
runs to what it leaves. Whether there is a neighbour decides both, so what a piece needs and leaves is written
with `hasL` and `hasR`.
-/
module

public import proofs.«01_k».proof.Proof.RunIdeal.Pieces

@[expose] public section

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 5 → ℕ)

abbrev 𝒱₀ : Variants := Variants.none

/-! ### What passes between the pieces -/

/-- The cells a device uses: its own five, its neighbours' barrier cells and their arrival cells. -/
def invs (c : Dev nD) : sProp 𝕄 :=
  iprop(cellInv ER (rd m) (K (c, 0)) (barCell c) ∗ cellInv ER (rd m) (K (c, 1)) (snd0Cell c) ∗ cellInv ER (rd m) (K (c, 2)) (snd1Cell c)
    ∗ cellInv ER (rd m) (K (c, 3)) (rcv0Cell c) ∗ cellInv ER (rd m) (K (c, 4)) (rcv1Cell c)
    ∗ cellInv ER (rd m) (K (nxt c, 0)) (barCell (nxt c)) ∗ cellInv ER (rd m) (K (prv c, 0)) (barCell (prv c))
    ∗ cellInv ER (rd m) (K (nxt c, 3)) (rcv0Cell (nxt c)) ∗ cellInv ER (rd m) (K (prv c, 4)) (rcv1Cell (prv c)))

instance invs_persistent (c : Dev nD) : BI.Persistent (invs (F := F) m K c) := by unfold invs; infer_instance

/-- A device at an end keeps the half of its halo buffer nobody writes. -/
def kept0 (c : Dev nD) : sProp 𝕄 := if hasL c then iprop(emp) else iprop(∃ f, halo0At c f)
def kept1 (c : Dev nD) : sProp 𝕄 := if hasR c then iprop(emp) else iprop(∃ f, halo1At c f)
/-- The half of a neighbour's halo buffer, lent by it. -/
def lentL (c : Dev nD) : sProp 𝕄 := if hasL c then barPayL c else iprop(emp)
def lentR (c : Dev nD) : sProp 𝕄 := if hasR c then barPayR c else iprop(emp)
/-- The outgoing buffer's contents by quarters. -/
def Staged (c : Dev nD) (f : (cc0_scratch1 : Ref sig .tc).ty.Contents (Elt F)) : Prop :=
  sendM.view.readAt (Elt F) rect00.toLoadRect f = k0_pay2 (lo (kAt m c))
    ∧ sendM.view.readAt (Elt F) rect01.toLoadRect f = k0_pay3 (lo (vAt m c))
    ∧ sendM.view.readAt (Elt F) rect10.toLoadRect f = k0_pay4 (hi (kAt m c))
    ∧ sendM.view.readAt (Elt F) rect11.toLoadRect f = k0_pay5 (hi (vAt m c))
/-- After a transfer started: the credit its departure gives, or the half not sent. -/
def gone1 (c : Dev nD) : sProp 𝕄 := if hasR c then cred (tallyAt (snd0Cell c) () N) else iprop(∃ f, send1At c f)
def gone0 (c : Dev nD) : sProp 𝕄 := if hasL c then cred (tallyAt (snd1Cell c) () N) else iprop(∃ f, send0At c f)
/-- At an end: the half nobody writes, its values zeroed. -/
def zeroed0 (c : Dev nD) : sProp 𝕄 := if hasL c then iprop(emp) else iprop(∃ f, ⌜haloM.view.readAt (Elt F) rect01.toLoadRect f = k0_pay6 (F := F)⌝ ∗ halo0At c f)
def zeroed1 (c : Dev nD) : sProp 𝕄 := if hasR c then iprop(emp) else iprop(∃ f, ⌜haloM.view.readAt (Elt F) rect11.toLoadRect f = k0_pay7 (F := F)⌝ ∗ halo1At c f)
/-- What half 0 and half 1 of the halo buffer finally hold. -/
def Ok0 (c : Dev nD) (f : (cc0_scratch0 : Ref sig .tc).ty.Contents (Elt F)) : Prop :=
  if hasL c then FromL m c f else haloM.view.readAt (Elt F) rect01.toLoadRect f = k0_pay6 (F := F)
def Ok1 (c : Dev nD) (f : (cc0_scratch0 : Ref sig .tc).ty.Contents (Elt F)) : Prop :=
  if hasR c then FromR m c f else haloM.view.readAt (Elt F) rect11.toLoadRect f = k0_pay7 (F := F)

/-! ### The rounds of a device's cells -/

theorem bar_payloads (c : Dev nD) : bigSep ((rd (F := F) m).duties (barCell c) 0) (fun d => (rd (F := F) m).payload (barCell c) 0 d) = iprop(lentL c ∗ lentR c) := by
  rw [duties_bar, BI.bigSep_union (by split <;> split <;> decide)]
  unfold lentL lentR
  congr 1
  · split
    · rw [bigSep_singleton, payload_bar_false]
    · rw [bigSep_empty]; rfl
  · split
    · rw [bigSep_singleton, payload_bar_true]
    · rw [bigSep_empty]; rfl

theorem expect_bar (c : Dev nD) : (rd (F := F) m).expect (barCell c) 0 = (if hasL c then 1 else 0) + (if hasR c then 1 else 0) := by
  unfold Schedule.expect Schedule.amountOf
  rw [Finset.sum_congr rfl fun d _ => amount_bar m c d, duties_bar, Finset.sum_union (by split <;> split <;> decide)]
  congr 1 <;> split <;> simp

/-! ### Signals -/

theorem sigL_wp (c : Dev nD) (W : Waits sig Unit) (Q : PUnit → sProp 𝕄) :
    iprop(invs m K c ∗ owes (c : Thread nD τ) (O₀ c) W ∗ dutyTok ER (barCell (prv c)) 0 true ∗ reached ER (barCell (prv c)) 0
        ∗ (∃ f, halo0At c f) ∗ ((owes (c : Thread nD τ) (O₁ c + owedC c) W ∗ kept0 c) -∗ Q ⟨⟩))
      ⊢ wp frame (wpE (defs₀ (F := F)) 𝒱₀ (c : Thread nD τ) none) Set.univ (sigL c) Q := by
  unfold sigL kept0 invs
  by_cases h : hasL c
  · rw [if_pos h, if_pos h, show O₀ c = (O₁ c + owedC c) + tallyAt (barCell (prv c)) () 1 by unfold O₀ owedD; rw [if_pos h]]
    simp only [semSignalWord]
    iintro ⟨⟨-, -, -, -, -, -, #HI, -⟩, HO, Htok, #Hr, Hh, Hk⟩
    iapply (Rounds.wp_signal 𝒱₀ ER (rd m) (c : Thread nD τ) none (dst := (prv c : Thread nD τ)) (κ := K (prv c, 0))
        (d := true) (by rw [duties_bar, if_pos (hasR_prv h)]; exact Finset.mem_union_right _ (Finset.mem_singleton_self _))
        ((amount_bar m (prv c) true).trans (by decide)) () (O₁ c + owedC c) rfl) $$ [HO Htok Hh]
    · isplitr; · iexact HI
      isplitl [HO]; · iexact HO
      isplitl [Htok]; · iexact Htok
      isplitl [Hh]
      · rw [payload_bar_true]; unfold barPayR; rw [nxt_prv]; iexact Hh
      iexact Hr
    iintro HO
    rw [wp_ret]; imodintro
    iapply Hk
    isplitl [HO]; · iexact HO
    iempintro
  · rw [if_neg h, if_neg h, show O₀ c = O₁ c + owedC c by unfold O₀ owedD; rw [if_neg h, add_zero]]
    iintro ⟨-, HO, -, -, Hh, Hk⟩
    simp only [Prog.pure_eq_ret]
    rw [wp_ret]; imodintro
    iapply Hk
    isplitl [HO]; · iexact HO
    iexact Hh

theorem sigR_wp (c : Dev nD) (W : Waits sig Unit) (Q : PUnit → sProp 𝕄) :
    iprop(invs m K c ∗ owes (c : Thread nD τ) (O₁ c + owedC c) W ∗ dutyTok ER (barCell (nxt c)) 0 false ∗ reached ER (barCell (nxt c)) 0
        ∗ (∃ f, halo1At c f) ∗ ((owes (c : Thread nD τ) (O₁ c) W ∗ kept1 c) -∗ Q ⟨⟩))
      ⊢ wp frame (wpE (defs₀ (F := F)) 𝒱₀ (c : Thread nD τ) none) Set.univ (sigR c) Q := by
  unfold sigR kept1 invs
  by_cases h : hasR c
  · rw [if_pos h, if_pos h, show owedC c = tallyAt (barCell (nxt c)) () 1 by unfold owedC; rw [if_pos h]]
    simp only [semSignalWord]
    iintro ⟨⟨-, -, -, -, -, #HI, -⟩, HO, Htok, #Hr, Hh, Hk⟩
    iapply (Rounds.wp_signal 𝒱₀ ER (rd m) (c : Thread nD τ) none (dst := (nxt c : Thread nD τ)) (κ := K (nxt c, 0))
        (d := false) (by rw [duties_bar, if_pos (hasL_nxt h)]; exact Finset.mem_union_left _ (Finset.mem_singleton_self _))
        ((amount_bar m (nxt c) false).trans (by decide)) () (O₁ c) rfl) $$ [HO Htok Hh]
    · isplitr; · iexact HI
      isplitl [HO]; · iexact HO
      isplitl [Htok]; · iexact Htok
      isplitl [Hh]
      · rw [payload_bar_false]; unfold barPayL; rw [prv_nxt]; iexact Hh
      iexact Hr
    iintro HO
    rw [wp_ret]; imodintro
    iapply Hk
    isplitl [HO]; · iexact HO
    iempintro
  · rw [if_neg h, if_neg h, show O₁ c + owedC c = O₁ c by unfold owedC; rw [if_neg h, add_zero]]
    iintro ⟨-, HO, -, -, Hh, Hk⟩
    simp only [Prog.pure_eq_ret]
    rw [wp_ret]; imodintro
    iapply Hk
    isplitl [HO]; · iexact HO
    iexact Hh

/-! ### The barrier -/

/-- One wait that completes the round of the barrier cell. -/
theorem bar_rest (c : Dev nD) (W : Waits sig Unit) (T : Finset Bool) (a : ℕ) (ha : a + 1 = (rd (F := F) m).expect (barCell c) 0) (Q : PUnit → sProp 𝕄) :
    iprop(invs m K c ∗ cred (tallyAt (barCell c) () 1) ∗ owes (c : Thread nD τ) (O₁ c) W ∗ levAts L lv ∗ atPos ER (barCell c) 0 T a
        ∗ ((owes (c : Thread nD τ) (O₁ c) (insert (SemLoc.reg barS, ()) W) ∗ atPos ER (barCell c) 1 ∅ 0
          ∗ bigSep ((rd (F := F) m).duties (barCell c) 0 \ T) (fun d => (rd (F := F) m).payload (barCell c) 0 d)) -∗ Q ⟨⟩))
      ⊢ wp frame (wpE (defs₀ (F := F)) 𝒱₀ (c : Thread nD τ) none) Set.univ (semWaitWord barS 1#32) Q := by
  unfold invs
  simp only [semWaitWord]
  iintro ⟨⟨#HI, -⟩, Hc, HO, #Hlev, Hat, Hk⟩
  iapply (Rounds.wp_wait_rest_token 𝒱₀ ER (rd m) (c : Thread nD τ) none (κ := K (c, 0))
      (wpE_semWait_eq 𝒱₀ (c : Thread nD τ) none Set.univ) (Set.mem_univ _) () (O := O₁ c) (W := W) (R := 0) (m := a) (T := T)
      ha) $$ [Hc HO Hat]
  · isplitr; · iexact HI
    isplitl [Hc]; · iexact Hc
    isplitl [HO]; · iexact HO
    isplitr; · iapply (mayOwe_bar c); iexact Hlev
    iexact Hat
  iintro ⟨HO, Hat, -, Hp⟩
  rw [wp_ret]; imodintro
  iapply Hk
  isplitl [HO]; · iexact HO
  isplitl [Hat] <;> iassumption

/-- One wait that leaves units of the round to come. -/
theorem bar_first (c : Dev nD) (W : Waits sig Unit) (Q : PUnit → sProp 𝕄) :
    iprop(invs m K c ∗ cred (tallyAt (barCell c) () 1) ∗ owes (c : Thread nD τ) (O₁ c) W ∗ levAts L lv ∗ atPos ER (barCell c) 0 ∅ 0
        ∗ (∀ S : Finset Bool, (⌜S ⊆ (rd (F := F) m).duties (barCell c) 0⌝ ∗ owes (c : Thread nD τ) (O₁ c) (W ∪ {(SemLoc.reg barS, ())}) ∗ atPos ER (barCell c) 0 S 1
          ∗ bigSep S (fun d => (rd (F := F) m).payload (barCell c) 0 d)) -∗ Q ⟨⟩))
      ⊢ wp frame (wpE (defs₀ (F := F)) 𝒱₀ (c : Thread nD τ) none) Set.univ (semWaitWord barS 1#32) Q := by
  unfold invs
  simp only [semWaitWord]
  iintro ⟨⟨#HI, -⟩, Hc, HO, #Hlev, Hat, Hk⟩
  iapply (Rounds.wp_wait 𝒱₀ ER (rd m) (c : Thread nD τ) none (κ := K (c, 0)) (k' := 1)
      (wpE_semWait_eq 𝒱₀ (c : Thread nD τ) none Set.univ) (Set.mem_univ _) (cr := Finsupp.single () 1) (O := O₁ c) (W := W)
      {(SemLoc.reg barS, ())} (R := 0) (m := 0) (T := ∅) (by rw [Util.total_single]) (image_single_subset (SemLoc.reg barS) () 1)) $$ [Hc HO Hat]
  · isplitr; · iexact HI
    isplitl [Hc]; · iexact Hc
    isplitl [HO]; · iexact HO
    isplitr; · iapply (mayOwe_bar c); iexact Hlev
    iexact Hat
  iintro %S ⟨%hS, HO, Hat, Hp⟩
  rw [wp_ret]; imodintro
  iapply Hk $$ %S
  isplitr; · ipureintro; exact hS.2.1
  isplitl [HO]; · iexact HO
  isplitl [Hat]; · iexact Hat
  rw [Finset.sdiff_empty]; iexact Hp

/-- Both waits: afterwards the neighbours' halves are lent. -/
theorem waits_wp (c : Dev nD) (W : Waits sig Unit) (Q : PUnit → sProp 𝕄) :
    iprop(invs m K c ∗ cred (tallyAt (barCell c) () (if hasL c then 1 else 0)) ∗ cred (tallyAt (barCell c) () (if hasR c then 1 else 0))
        ∗ owes (c : Thread nD τ) (O₁ c) W ∗ levAts L lv ∗ atPos ER (barCell c) 0 ∅ 0
        ∗ (((∃ W', owes (c : Thread nD τ) (O₁ c) W') ∗ atPos ER (barCell c) 1 ∅ 0 ∗ lentL c ∗ lentR c) -∗ Q ⟨⟩))
      ⊢ wp frame (wpE (defs₀ (F := F)) 𝒱₀ (c : Thread nD τ) none) Set.univ (waitL c) (fun _ => wp frame (wpE (defs₀ (F := F)) 𝒱₀ (c : Thread nD τ) none) Set.univ (waitR c) Q) := by
  unfold waitL waitR
  by_cases hl : hasL c <;> by_cases hr : hasR c
  · simp only [if_pos hl, if_pos hr]
    iintro ⟨#HI, HcL, HcR, HO, #Hlev, Hat, Hk⟩
    iapply (bar_first m K c W _)
    isplitr; · iexact HI
    isplitl [HcL]; · iexact HcL
    isplitl [HO]; · iexact HO
    isplitr; · iexact Hlev
    isplitl [Hat]; · iexact Hat
    iintro %S ⟨%hS, HO, Hat, Hp⟩
    iapply (bar_rest m K c _ S 1 (by rw [expect_bar, if_pos hl, if_pos hr]) Q)
    isplitr; · iexact HI
    isplitl [HcR]; · iexact HcR
    isplitl [HO]; · iexact HO
    isplitr; · iexact Hlev
    isplitl [Hat]; · iexact Hat
    iintro ⟨HO, Hat, Hq⟩
    iapply Hk
    isplitl [HO]; · iexists _; iexact HO
    isplitl [Hat]; · iexact Hat
    iapply (Entails.of_eq (bar_payloads m c))
    have hsplit : bigSep ((rd (F := F) m).duties (barCell c) 0) (fun d => (rd (F := F) m).payload (barCell c) 0 d) = iprop(bigSep S (fun d => (rd (F := F) m).payload (barCell c) 0 d) ∗ bigSep ((rd (F := F) m).duties (barCell c) 0 \ S) (fun d => (rd (F := F) m).payload (barCell c) 0 d)) := BI.bigSep_sdiff_split hS
    iapply (Entails.of_eq hsplit.symm)
    isplitl [Hp]; · iexact Hp
    iexact Hq
  · simp only [if_pos hl, if_neg hr, Prog.pure_eq_ret]
    iintro ⟨#HI, HcL, -, HO, #Hlev, Hat, Hk⟩
    iapply (bar_rest m K c W ∅ 0 (by rw [expect_bar, if_pos hl, if_neg hr]) _)
    isplitr; · iexact HI
    isplitl [HcL]; · iexact HcL
    isplitl [HO]; · iexact HO
    isplitr; · iexact Hlev
    isplitl [Hat]; · iexact Hat
    iintro ⟨HO, Hat, Hq⟩
    rw [wp_ret]; imodintro
    iapply Hk
    isplitl [HO]; · iexists _; iexact HO
    isplitl [Hat]; · iexact Hat
    rw [Finset.sdiff_empty]
    iapply (Entails.of_eq (bar_payloads m c)); iexact Hq
  · simp only [if_neg hl, if_pos hr, Prog.pure_eq_ret]
    iintro ⟨#HI, -, HcR, HO, #Hlev, Hat, Hk⟩
    rw [wp_ret]; imodintro
    iapply (bar_rest m K c W ∅ 0 (by rw [expect_bar, if_neg hl, if_pos hr]) _)
    isplitr; · iexact HI
    isplitl [HcR]; · iexact HcR
    isplitl [HO]; · iexact HO
    isplitr; · iexact Hlev
    isplitl [Hat]; · iexact Hat
    iintro ⟨HO, Hat, Hq⟩
    iapply Hk
    isplitl [HO]; · iexists _; iexact HO
    isplitl [Hat]; · iexact Hat
    rw [Finset.sdiff_empty]
    iapply (Entails.of_eq (bar_payloads m c)); iexact Hq
  · exact absurd (hasL_or_hasR c) (fun h => h.elim hl hr)

/-! ### The transfers -/

/-- The transfer to the device after. -/
theorem send_up (c n : Dev nD) (hn : n = nxt c) (h : hasR c) (O : CellTallies nD τ sig Unit) (W : Waits sig Unit) (f : SendC (F := F) c) (hf : Staged m c f) (g : HaloC (F := F) (nxt c))
    {hsc : (halo0 : Memref sig (Dev.tc n : Thread nD τ).2.kind .vmem S2x2x128x4x64 .bf16).view.ref.isScScratch = false}
    {hsrc : (send1 : Memref sig .tc .vmem S2x2x128x4x64 .bf16).view.WordExact} {hdst : (halo0 : Memref sig .tc .vmem S2x2x128x4x64 .bf16).view.WordExact}
    {hsem : DmaTarget.Typed .vmem (.dma rcv0) (.remote (Dev.tc n : Thread nD τ) (halo0 : Memref sig .tc .vmem S2x2x128x4x64 .bf16) (.dma snd0) hsc)}
    {α : Type} {Q : α → sProp 𝕄} {k : PUnit → Prog (TpuEff nD τ sig (Elt F) Λ₀ .tc) α} :
    iprop(cellInv ER (rd m) (K (c, 1)) (snd0Cell c) ∗ cellInv ER (rd m) (K (nxt c, 3)) (rcv0Cell (nxt c))
        ∗ send1At c f ∗ halo0At (nxt c) g ∗ owes (c : Thread nD τ) (O + tallyAt (rcv0Cell (nxt c)) () N) W
        ∗ dutyTok ER (snd0Cell c) 0 false ∗ reached ER (snd0Cell c) 0 ∗ dutyTok ER (rcv0Cell (nxt c)) 0 false ∗ reached ER (rcv0Cell (nxt c)) 0)
      ⊢ iprop(((cred (tallyAt (snd0Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma send1 (.remote (Dev.tc n : Thread nD τ) halo0 (.dma snd0) hsc) (.dma rcv0) hsrc hdst hsem) k) Q) := by
  subst hn
  have hp : iprop(halo0At (nxt c) ((halo0 : Memref sig .tc .vmem S2x2x128x4x64 .bf16).view.write (Elt F) g ((send1 : Memref sig .tc .vmem S2x2x128x4x64 .bf16).view.read (Elt F) f) Finset.univ)) ⊢ rcv0Pay m (nxt c) := by
    unfold rcv0Pay; iintro H; iexists _; isplitr
    · ipureintro; unfold FromL; rw [prv_nxt]
      exact ⟨(landed0 g f).1.trans hf.2.2.1, (landed0 g f).2.trans hf.2.2.2⟩
    · iexact H
  have hs : send1At c f ⊢ snd0Pay (F := F) c := by unfold snd0Pay; iintro H; iexists f; iexact H
  have hs' := hs.trans (Entails.of_eq (payload_snd0 m c false).symm)
  have hp' := hp.trans (Entails.of_eq (payload_rcv0 m (nxt c) false).symm)
  have hd1 : false ∈ (rd (F := F) m).duties (snd0Cell c) 0 := by rw [duties_snd0, if_pos h]; exact Finset.mem_singleton_self _
  have hd2 : false ∈ (rd (F := F) m).duties (rcv0Cell (nxt c)) 0 := by rw [duties_rcv0, if_pos (hasL_nxt h)]; exact Finset.mem_singleton_self _
  unfold send1At at hs' ⊢
  unfold halo0At at hp' ⊢
  exact Rounds.wp_send_pointsTo 𝒱₀ ER (rd m) (c : Thread nD τ) none (c' := (nxt c : Thread nD τ)) (src := send1) (dst := halo0) (hsc := hsc)
    (sS := .dma snd0) (sem := .dma rcv0) (hsrc := hsrc) (hdst := hdst) (hsem := hsem) (κ₁ := K (c, 1)) (κ₂ := K (nxt c, 3))
    (r₁ := 0) (r₂ := 0) (d₁ := false) (d₂ := false) (fd := g) (fs := f) hd1 hd2
    () () N rfl (amount_dma m c snd0 false) (amount_dma m (nxt c) rcv0 false) O rfl (W := W) hs' hp'

/-- The transfer to the device before. -/
theorem send_down (c n : Dev nD) (hn : n = prv c) (h : hasL c) (O : CellTallies nD τ sig Unit) (W : Waits sig Unit) (f : SendC (F := F) c) (hf : Staged m c f) (g : HaloC (F := F) (prv c))
    {hsc : (halo1 : Memref sig (Dev.tc n : Thread nD τ).2.kind .vmem S2x2x128x4x64 .bf16).view.ref.isScScratch = false}
    {hsrc : (send0 : Memref sig .tc .vmem S2x2x128x4x64 .bf16).view.WordExact} {hdst : (halo1 : Memref sig .tc .vmem S2x2x128x4x64 .bf16).view.WordExact}
    {hsem : DmaTarget.Typed .vmem (.dma rcv1) (.remote (Dev.tc n : Thread nD τ) (halo1 : Memref sig .tc .vmem S2x2x128x4x64 .bf16) (.dma snd1) hsc)}
    {α : Type} {Q : α → sProp 𝕄} {k : PUnit → Prog (TpuEff nD τ sig (Elt F) Λ₀ .tc) α} :
    iprop(cellInv ER (rd m) (K (c, 2)) (snd1Cell c) ∗ cellInv ER (rd m) (K (prv c, 4)) (rcv1Cell (prv c))
        ∗ send0At c f ∗ halo1At (prv c) g ∗ owes (c : Thread nD τ) (O + tallyAt (rcv1Cell (prv c)) () N) W
        ∗ dutyTok ER (snd1Cell c) 0 false ∗ reached ER (snd1Cell c) 0 ∗ dutyTok ER (rcv1Cell (prv c)) 0 false ∗ reached ER (rcv1Cell (prv c)) 0)
      ⊢ iprop(((cred (tallyAt (snd1Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma send0 (.remote (Dev.tc n : Thread nD τ) halo1 (.dma snd1) hsc) (.dma rcv1) hsrc hdst hsem) k) Q) := by
  subst hn
  have hp : iprop(halo1At (prv c) ((halo1 : Memref sig .tc .vmem S2x2x128x4x64 .bf16).view.write (Elt F) g ((send0 : Memref sig .tc .vmem S2x2x128x4x64 .bf16).view.read (Elt F) f) Finset.univ)) ⊢ rcv1Pay m (prv c) := by
    unfold rcv1Pay; iintro H; iexists _; isplitr
    · ipureintro; unfold FromR; rw [nxt_prv]
      exact ⟨(landed1 g f).1.trans hf.1, (landed1 g f).2.trans hf.2.1⟩
    · iexact H
  have hs : send0At c f ⊢ snd1Pay (F := F) c := by unfold snd1Pay; iintro H; iexists f; iexact H
  have hs' := hs.trans (Entails.of_eq (payload_snd1 m c false).symm)
  have hp' := hp.trans (Entails.of_eq (payload_rcv1 m (prv c) false).symm)
  have hd1 : false ∈ (rd (F := F) m).duties (snd1Cell c) 0 := by rw [duties_snd1, if_pos h]; exact Finset.mem_singleton_self _
  have hd2 : false ∈ (rd (F := F) m).duties (rcv1Cell (prv c)) 0 := by rw [duties_rcv1, if_pos (hasR_prv h)]; exact Finset.mem_singleton_self _
  unfold send0At at hs' ⊢
  unfold halo1At at hp' ⊢
  exact Rounds.wp_send_pointsTo 𝒱₀ ER (rd m) (c : Thread nD τ) none (c' := (prv c : Thread nD τ)) (src := send0) (dst := halo1) (hsc := hsc)
    (sS := .dma snd1) (sem := .dma rcv1) (hsrc := hsrc) (hdst := hdst) (hsem := hsem) (κ₁ := K (c, 2)) (κ₂ := K (prv c, 4))
    (r₁ := 0) (r₂ := 0) (d₁ := false) (d₂ := false) (fd := g) (fs := f) hd1 hd2
    () () N rfl (amount_dma m c snd1 false) (amount_dma m (prv c) rcv1 false) O rfl (W := W) hs' hp'

theorem sendR_wp (c : Dev nD) (W : Waits sig Unit) (f : SendC (F := F) c) (hf : Staged m c f) (Q : PUnit → sProp 𝕄) :
    iprop(invs m K c ∗ owes (c : Thread nD τ) (O₁ c) W ∗ send1At c f ∗ lentR c
        ∗ dutyTok ER (snd0Cell c) 0 false ∗ reached ER (snd0Cell c) 0 ∗ dutyTok ER (rcv0Cell (nxt c)) 0 false ∗ reached ER (rcv0Cell (nxt c)) 0
        ∗ ((owes (c : Thread nD τ) (owedA c) W ∗ gone1 c) -∗ Q ⟨⟩))
      ⊢ wp frame (wpE (defs₀ (F := F)) 𝒱₀ (c : Thread nD τ) none) Set.univ (sendR c) Q := by
  unfold sendR gone1 lentR invs
  by_cases h : hasR c
  · rw [if_pos h, if_pos h, if_pos h, show O₁ c = owedA c + tallyAt (rcv0Cell (nxt c)) () N by unfold O₁ owedB; rw [if_pos h]]
    unfold sendUp barPayR
    simp only [Prog.lift]
    iintro ⟨⟨-, #HIs, -, -, -, -, -, #HIr, -⟩, HO, Hsrc, ⟨%g, Hdst⟩, Hts, #Hrs, Htr, #Hrr, Hk⟩
    iapply (send_up m K c _ rfl h (owedA c) W f hf g) $$ [HO Hsrc Hdst Hts Htr]
    · isplitr; · iexact HIs
      isplitr; · iexact HIr
      isplitl [Hsrc]; · iexact Hsrc
      isplitl [Hdst]; · iexact Hdst
      isplitl [HO]; · iexact HO
      isplitl [Hts]; · iexact Hts
      isplitr; · iexact Hrs
      isplitl [Htr]; · iexact Htr
      iexact Hrr
    iintro ⟨Hc, HO⟩
    rw [wp_ret]; imodintro
    iapply Hk
    isplitl [HO] <;> iassumption
  · rw [if_neg h, if_neg h, if_neg h, show O₁ c = owedA c by unfold O₁ owedB; rw [if_neg h, add_zero]]
    iintro ⟨-, HO, Hsrc, -, -, -, -, -, Hk⟩
    simp only [Prog.pure_eq_ret]
    rw [wp_ret]; imodintro
    iapply Hk
    isplitl [HO]; · iexact HO
    iexists f; iexact Hsrc

theorem sendL_wp (c : Dev nD) (W : Waits sig Unit) (f : SendC (F := F) c) (hf : Staged m c f) (Q : PUnit → sProp 𝕄) :
    iprop(invs m K c ∗ owes (c : Thread nD τ) (owedA c) W ∗ send0At c f ∗ lentL c
        ∗ dutyTok ER (snd1Cell c) 0 false ∗ reached ER (snd1Cell c) 0 ∗ dutyTok ER (rcv1Cell (prv c)) 0 false ∗ reached ER (rcv1Cell (prv c)) 0
        ∗ ((owes (c : Thread nD τ) 0 W ∗ gone0 c) -∗ Q ⟨⟩))
      ⊢ wp frame (wpE (defs₀ (F := F)) 𝒱₀ (c : Thread nD τ) none) Set.univ (sendL c) Q := by
  unfold sendL gone0 lentL invs
  by_cases h : hasL c
  · rw [if_pos h, if_pos h, if_pos h, show owedA c = 0 + tallyAt (rcv1Cell (prv c)) () N by unfold owedA; rw [if_pos h, zero_add]]
    unfold sendDown barPayL
    simp only [Prog.lift]
    iintro ⟨⟨-, -, #HIs, -, -, -, -, -, #HIr⟩, HO, Hsrc, ⟨%g, Hdst⟩, Hts, #Hrs, Htr, #Hrr, Hk⟩
    iapply (send_down m K c _ rfl h 0 W f hf g) $$ [HO Hsrc Hdst Hts Htr]
    · isplitr; · iexact HIs
      isplitr; · iexact HIr
      isplitl [Hsrc]; · iexact Hsrc
      isplitl [Hdst]; · iexact Hdst
      isplitl [HO]; · iexact HO
      isplitl [Hts]; · iexact Hts
      isplitr; · iexact Hrs
      isplitl [Htr]; · iexact Htr
      iexact Hrr
    iintro ⟨Hc, HO⟩
    rw [wp_ret]; imodintro
    iapply Hk
    isplitl [HO] <;> iassumption
  · rw [if_neg h, if_neg h, if_neg h, show owedA c = 0 by unfold owedA; rw [if_neg h]]
    iintro ⟨-, HO, Hsrc, -, -, -, -, -, Hk⟩
    simp only [Prog.pure_eq_ret]
    rw [wp_ret]; imodintro
    iapply Hk
    isplitl [HO]; · iexact HO
    iexists f; iexact Hsrc

/-! ### Arrivals -/

/-- A round of a transfer cell with its one duty. -/
theorem dma_payloads {c : Dev nD} {q : DmaSem sig} (h : (rd (F := F) m).duties ((c : Thread nD τ), .dma q) 0 = {false}) :
    bigSep ((rd (F := F) m).duties ((c : Thread nD τ), .dma q) 0 \ ∅) (fun d => (rd (F := F) m).payload ((c : Thread nD τ), .dma q) 0 d)
      = (rd (F := F) m).payload ((c : Thread nD τ), .dma q) 0 false := by
  rw [Finset.sdiff_empty, h, bigSep_singleton]

theorem dma_expect {c : Dev nD} {q : DmaSem sig} (h : (rd (F := F) m).duties ((c : Thread nD τ), .dma q) 0 = {false}) :
    0 + N = (rd (F := F) m).expect ((c : Thread nD τ), .dma q) 0 := by
  rw [expect_of_single m h, amount_dma, Nat.zero_add]

/-- A wait that completes the one round of a transfer cell. -/
theorem dma_wait (c : Dev nD) (q : DmaSem sig) (i : Fin 5) (hd : (rd (F := F) m).duties ((c : Thread nD τ), .dma q) 0 = {false}) (W : Waits sig Unit)
    {src dst : Memref sig .tc .vmem S2x2x128x4x64 .bf16} {hsrc : src.view.WordExact} {hdst : dst.view.WordExact} (hN : dst.view.dmaCredit = N) (Q : PUnit → sProp 𝕄) :
    iprop(cellInv ER (rd m) (K (c, i)) ((c : Thread nD τ), .dma q) ∗ cred (tallyAt ((c : Thread nD τ), .dma q) () N) ∗ owes (c : Thread nD τ) 0 W
        ∗ atPos ER ((c : Thread nD τ), .dma q) 0 ∅ 0
        ∗ ((owes (c : Thread nD τ) 0 (insert (SemLoc.dma q, ()) W) ∗ atPos ER ((c : Thread nD τ), .dma q) 1 ∅ 0
            ∗ (rd (F := F) m).payload ((c : Thread nD τ), .dma q) 0 false) -∗ Q ⟨⟩))
      ⊢ wp frame (wpE (defs₀ (F := F)) 𝒱₀ (c : Thread nD τ) none) Set.univ (Prog.lift (.waitDma2 q src dst hsrc hdst)) Q := by
  have hw : ∀ X : PUnit → sProp 𝕄, wpE' (defs₀ (F := F)) 𝒱₀ (c : Thread nD τ) none PendingWaitsCtx.empty Set.univ (.waitDma2 q src dst hsrc hdst) X = waitSpec (c : Thread nD τ) Set.univ (.dma q) N X :=
    fun X => (wpE_waitDma2_eq 𝒱₀ (c : Thread nD τ) none Set.univ X).trans (by rw [hN])
  simp only [Prog.lift]
  iintro ⟨#HI, Hc, HO, Hat, Hk⟩
  iapply (Rounds.wp_wait_rest_token 𝒱₀ ER (rd m) (c : Thread nD τ) none (κ := K (c, i)) (sm := .dma q) hw (Set.mem_univ _) () (O := 0) (W := W) (R := 0) (m := 0) (T := ∅)
      (dma_expect m hd)) $$ [Hc HO Hat]
  · isplitr; · iexact HI
    isplitl [Hc]; · iexact Hc
    isplitl [HO]; · iexact HO
    isplitr; · rw [MayWait_zero]; iempintro
    iexact Hat
  iintro ⟨HO, Hat, -, Hp⟩
  rw [wp_ret]; imodintro
  iapply Hk
  isplitl [HO]; · iexact HO
  isplitl [Hat]; · iexact Hat
  iapply (Entails.of_eq (dma_payloads m hd)); iexact Hp

/-- The position of a transfer cell at the end. -/
abbrev rounds (p : Prop) [Decidable p] : ℕ := if p then 1 else 0

theorem recvL_wp (c : Dev nD) (W : Waits sig Unit) (Q : PUnit → sProp 𝕄) :
    iprop(invs m K c ∗ cred (tallyAt (rcv0Cell c) () (if hasL c then N else 0)) ∗ gone0 c ∗ owes (c : Thread nD τ) 0 W
        ∗ atPos ER (rcv0Cell c) 0 ∅ 0 ∗ atPos ER (snd1Cell c) 0 ∅ 0 ∗ zeroed0 c
        ∗ (((∃ W', owes (c : Thread nD τ) 0 W') ∗ atPos ER (rcv0Cell c) (rounds (hasL c)) ∅ 0 ∗ atPos ER (snd1Cell c) (rounds (hasL c)) ∅ 0
          ∗ (∃ f, ⌜Ok0 m c f⌝ ∗ halo0At c f) ∗ (∃ f, send0At c f)) -∗ Q ⟨⟩))
      ⊢ wp frame (wpE (defs₀ (F := F)) 𝒱₀ (c : Thread nD τ) none) Set.univ (recvL c) Q := by
  unfold recvL gone0 zeroed0 Ok0 rounds invs
  by_cases h : hasL c
  · simp only [if_pos h, wp_bind]
    have hd1 : (rd (F := F) m).duties (rcv0Cell c) 0 = {false} := by rw [duties_rcv0, if_pos h]
    have hd2 : (rd (F := F) m).duties (snd1Cell c) 0 = {false} := by rw [duties_snd1, if_pos h]
    iintro ⟨⟨-, -, #HI2, #HI1, -, -, -, -, -⟩, Hc1, Hc2, HO, Hat1, Hat2, -, Hk⟩
    iapply (dma_wait m K c rcv0 3 hd1 W (src := send1) (dst := halo0) rfl _)
    isplitr; · iexact HI1
    isplitl [Hc1]; · iexact Hc1
    isplitl [HO]; · iexact HO
    isplitl [Hat1]; · iexact Hat1
    iintro ⟨HO, Hat1, Hp⟩
    ihave Hp := (Entails.of_eq (payload_rcv0 m c false)) $$ Hp
    unfold rcv0Pay
    iapply (dma_wait m K c snd1 2 hd2 _ (src := halo1) (dst := send0) rfl _)
    isplitr; · iexact HI2
    isplitl [Hc2]; · iexact Hc2
    isplitl [HO]; · iexact HO
    isplitl [Hat2]; · iexact Hat2
    iintro ⟨HO, Hat2, Hq⟩
    ihave Hq := (Entails.of_eq (payload_snd1 m c false)) $$ Hq
    unfold snd1Pay
    iapply Hk
    isplitl [HO]; · iexists _; iexact HO
    isplitl [Hat1]; · iexact Hat1
    isplitl [Hat2]; · iexact Hat2
    isplitl [Hp]; · iexact Hp
    iexact Hq
  · simp only [if_neg h, Prog.pure_eq_ret]
    iintro ⟨-, -, Hs, HO, Hat1, Hat2, Hz, Hk⟩
    rw [wp_ret]; imodintro
    iapply Hk
    isplitl [HO]; · iexists _; iexact HO
    isplitl [Hat1]; · iexact Hat1
    isplitl [Hat2]; · iexact Hat2
    isplitl [Hz]; · iexact Hz
    iexact Hs

theorem recvR_wp (c : Dev nD) (W : Waits sig Unit) (Q : PUnit → sProp 𝕄) :
    iprop(invs m K c ∗ cred (tallyAt (rcv1Cell c) () (if hasR c then N else 0)) ∗ gone1 c ∗ owes (c : Thread nD τ) 0 W
        ∗ atPos ER (rcv1Cell c) 0 ∅ 0 ∗ atPos ER (snd0Cell c) 0 ∅ 0 ∗ zeroed1 c
        ∗ (((∃ W', owes (c : Thread nD τ) 0 W') ∗ atPos ER (rcv1Cell c) (rounds (hasR c)) ∅ 0 ∗ atPos ER (snd0Cell c) (rounds (hasR c)) ∅ 0
          ∗ (∃ f, ⌜Ok1 m c f⌝ ∗ halo1At c f) ∗ (∃ f, send1At c f)) -∗ Q ⟨⟩))
      ⊢ wp frame (wpE (defs₀ (F := F)) 𝒱₀ (c : Thread nD τ) none) Set.univ (recvR c) Q := by
  unfold recvR gone1 zeroed1 Ok1 rounds invs
  by_cases h : hasR c
  · simp only [if_pos h, wp_bind]
    have hd1 : (rd (F := F) m).duties (rcv1Cell c) 0 = {false} := by rw [duties_rcv1, if_pos h]
    have hd2 : (rd (F := F) m).duties (snd0Cell c) 0 = {false} := by rw [duties_snd0, if_pos h]
    iintro ⟨⟨-, #HI2, -, -, #HI1, -, -, -, -⟩, Hc1, Hc2, HO, Hat1, Hat2, -, Hk⟩
    iapply (dma_wait m K c rcv1 4 hd1 W (src := send0) (dst := halo1) rfl _)
    isplitr; · iexact HI1
    isplitl [Hc1]; · iexact Hc1
    isplitl [HO]; · iexact HO
    isplitl [Hat1]; · iexact Hat1
    iintro ⟨HO, Hat1, Hp⟩
    ihave Hp := (Entails.of_eq (payload_rcv1 m c false)) $$ Hp
    unfold rcv1Pay
    iapply (dma_wait m K c snd0 1 hd2 _ (src := halo0) (dst := send1) rfl _)
    isplitr; · iexact HI2
    isplitl [Hc2]; · iexact Hc2
    isplitl [HO]; · iexact HO
    isplitl [Hat2]; · iexact Hat2
    iintro ⟨HO, Hat2, Hq⟩
    ihave Hq := (Entails.of_eq (payload_snd0 m c false)) $$ Hq
    unfold snd0Pay
    iapply Hk
    isplitl [HO]; · iexists _; iexact HO
    isplitl [Hat1]; · iexact Hat1
    isplitl [Hat2]; · iexact Hat2
    isplitl [Hp]; · iexact Hp
    iexact Hq
  · simp only [if_neg h, Prog.pure_eq_ret]
    iintro ⟨-, -, Hs, HO, Hat1, Hat2, Hz, Hk⟩
    rw [wp_ret]; imodintro
    iapply Hk
    isplitl [HO]; · iexists _; iexact HO
    isplitl [Hat1]; · iexact Hat1
    isplitl [Hat2]; · iexact Hat2
    isplitl [Hz]; · iexact Hz
    iexact Hs

/-! ### Closing -/

/-- A transfer cell at its end is closed: its counter is zero. -/
theorem duties_past (c : Dev nD) (q : DmaSem sig) (p : Prop) [Decidable p] (h : (rd (F := F) m).duties ((c : Thread nD τ), .dma q) 0 = if p then {false} else ∅) :
    ∀ r, rounds p ≤ r → (rd (F := F) m).duties ((c : Thread nD τ), .dma q) r = ∅ := by
  intro r hr
  rcases Nat.eq_zero_or_pos r with rfl | hpos
  · unfold rounds at hr
    by_cases hp : p
    · rw [if_pos hp] at hr; exact absurd hr (by decide)
    · rw [h, if_neg hp]
  · exact duties_later m _ r hpos

end Cert.KernelIdeal.Halo

end
-- ==== Proof.RunIdeal.Local.lean ====
/-
The pieces that touch only a device's own buffers, each as one step.
-/
module

public import proofs.«01_k».proof.Proof.RunIdeal.Steps

@[expose] public section

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A buffer of device `c`, whole, holding `f`. -/
abbrev buf (c : Dev nD) (b : Ref sig .tc) (f : b.ty.Contents (Elt F)) : sProp 𝕄 := (((c : Thread nD τ).loc b) ↦{fullShare} (f : Buf (Elt F) ((c : Thread nD τ).loc b)))

/-! ### Staging -/

/-- The outgoing buffer after its half 0 is written. -/
abbrev filledLo (f : (cc0_scratch1 : Ref sig .tc).ty.Contents (Elt F)) (w00 w01 : Vec F S1x1x2x128x4x64 .bf16) : (cc0_scratch1 : Ref sig .tc).ty.Contents (Elt F) :=
  (sendM.access rect01).write (Elt F) ((sendM.access rect00).write (Elt F) f w00 Finset.univ) w01 Finset.univ

theorem lo_v (f : Vec F S2x256x4x64 .f32) : vM.view.readAt (Elt F) rowsLo.toLoadRect f = lo f := rfl
theorem hi_v (f : Vec F S2x256x4x64 .f32) : vM.view.readAt (Elt F) rowsHi.toLoadRect f = hi f := rfl

theorem stageLo_wp (c : Dev nD) (gk gv : Vec F S2x256x4x64 .f32) (f : (cc0_scratch1 : Ref sig .tc).ty.Contents (Elt F)) (Q : PUnit → sProp 𝕄) :
    iprop(buf c cc0_stg2_0 gk ∗ buf c cc0_stg3_0 gv ∗ buf c cc0_scratch1 f
        ∗ ((buf c cc0_stg2_0 gk ∗ buf c cc0_stg3_0 gv ∗ buf c cc0_scratch1 (filledLo f (k0_pay2 (lo gk)) (k0_pay3 (lo gv)))) -∗ Q ⟨⟩))
      ⊢ wp frame (wpE (defs₀ (F := F)) 𝒱₀ (c : Thread nD τ) none) Set.univ stageLo Q := by
  unfold stageLo
  simp only [Prog.lift, Prog.bind_op, Prog.bind_ret]
  iintro ⟨Hk, Hv, Hs, HQ⟩
  iapply (wp_load 𝒱₀ (c : Thread nD τ) none Set.univ (m := kM) (Finset.subset_univ _)) $$ Hk; iintro Hk
  iapply (wp_load 𝒱₀ (c : Thread nD τ) none Set.univ (m := sendM) (Finset.subset_univ _)) $$ Hs; iintro Hs
  iapply (wp_store 𝒱₀ (c : Thread nD τ) none Set.univ (m := sendM) (r := rect00) (Mk := Finset.univ) (Finset.subset_univ _)) $$ Hs; iintro Hs
  iapply (wp_load 𝒱₀ (c : Thread nD τ) none Set.univ (m := vM) (Finset.subset_univ _)) $$ Hv; iintro Hv
  iapply (wp_load 𝒱₀ (c : Thread nD τ) none Set.univ (m := sendM) (Finset.subset_univ _)) $$ Hs; iintro Hs
  iapply (wp_store 𝒱₀ (c : Thread nD τ) none Set.univ (m := sendM) (r := rect01) (Mk := Finset.univ) (Finset.subset_univ _)) $$ Hs; iintro Hs
  rw [wp_ret]; imodintro
  iapply HQ
  isplitl [Hk]; · iexact Hk
  isplitl [Hv]; · iexact Hv
  iexact Hs

theorem stageHi_wp (c : Dev nD) (gk gv : Vec F S2x256x4x64 .f32) (f : (cc0_scratch1 : Ref sig .tc).ty.Contents (Elt F)) (w00 w01 : Vec F S1x1x2x128x4x64 .bf16) (Q : PUnit → sProp 𝕄) :
    iprop(buf c cc0_stg2_0 gk ∗ buf c cc0_stg3_0 gv ∗ buf c cc0_scratch1 (filledLo f w00 w01)
        ∗ ((buf c cc0_stg2_0 gk ∗ buf c cc0_stg3_0 gv ∗ buf c cc0_scratch1 (filled f w00 w01 (k0_pay4 (hi gk)) (k0_pay5 (hi gv)))) -∗ Q ⟨⟩))
      ⊢ wp frame (wpE (defs₀ (F := F)) 𝒱₀ (c : Thread nD τ) none) Set.univ stageHi Q := by
  unfold stageHi
  simp only [Prog.lift, Prog.bind_op, Prog.bind_ret]
  iintro ⟨Hk, Hv, Hs, HQ⟩
  iapply (wp_load 𝒱₀ (c : Thread nD τ) none Set.univ (m := kM) (Finset.subset_univ _)) $$ Hk; iintro Hk
  iapply (wp_load 𝒱₀ (c : Thread nD τ) none Set.univ (m := sendM) (Finset.subset_univ _)) $$ Hs; iintro Hs
  iapply (wp_store 𝒱₀ (c : Thread nD τ) none Set.univ (m := sendM) (r := rect10) (Mk := Finset.univ) (Finset.subset_univ _)) $$ Hs; iintro Hs
  iapply (wp_load 𝒱₀ (c : Thread nD τ) none Set.univ (m := vM) (Finset.subset_univ _)) $$ Hv; iintro Hv
  iapply (wp_load 𝒱₀ (c : Thread nD τ) none Set.univ (m := sendM) (Finset.subset_univ _)) $$ Hs; iintro Hs
  iapply (wp_store 𝒱₀ (c : Thread nD τ) none Set.univ (m := sendM) (r := rect11) (Mk := Finset.univ) (Finset.subset_univ _)) $$ Hs; iintro Hs
  rw [wp_ret]; imodintro
  iapply HQ
  isplitl [Hk]; · iexact Hk
  isplitl [Hv]; · iexact Hv
  iexact Hs

/-! ### Zeroing -/

theorem within (r : Rect S2x2x2x128x4x64) : haloM.view.setOn r.toLoadRect.set ⊆ r.set := by
  intro i hi
  obtain ⟨x, hx, rfl⟩ := Finset.mem_map.mp hi
  exact hx
theorem within_store (r : Rect S2x2x2x128x4x64) : (haloM.access r).setOn Finset.univ ⊆ r.set :=
  (View.set_slice_whole (cc0_scratch0 : Ref sig .tc) r).subset

theorem in0 (r : Rect S2x2x2x128x4x64) (h : r = rect00 ∨ r = rect01) : haloM.view.setOn r.toLoadRect.set ⊆ (halo0 : Memref sig .tc .vmem S2x2x128x4x64 .bf16).view.set := by
  rw [set_halo0]; exact (within r).trans (quarter_subset0 r h)
theorem in1 (r : Rect S2x2x2x128x4x64) (h : r = rect10 ∨ r = rect11) : haloM.view.setOn r.toLoadRect.set ⊆ (halo1 : Memref sig .tc .vmem S2x2x128x4x64 .bf16).view.set := by
  rw [set_halo1]; exact (within r).trans (quarter_subset1 r h)
theorem in0_store : (haloM.access rect01).setOn Finset.univ ⊆ (halo0 : Memref sig .tc .vmem S2x2x128x4x64 .bf16).view.set := by
  rw [set_halo0]; exact (within_store rect01).trans (quarter_subset0 rect01 (Or.inr rfl))
theorem in1_store : (haloM.access rect11).setOn Finset.univ ⊆ (halo1 : Memref sig .tc .vmem S2x2x128x4x64 .bf16).view.set := by
  rw [set_halo1]; exact (within_store rect11).trans (quarter_subset1 rect11 (Or.inr rfl))

theorem zeroL_wp (c : Dev nD) (Q : PUnit → sProp 𝕄) :
    iprop(kept0 c ∗ (zeroed0 c -∗ Q ⟨⟩)) ⊢ wp frame (wpE (defs₀ (F := F)) 𝒱₀ (c : Thread nD τ) none) Set.univ (zeroL c) Q := by
  unfold zeroL kept0 zeroed0
  by_cases h : hasL c
  · simp only [if_pos h, Prog.pure_eq_ret]
    iintro ⟨-, HQ⟩
    rw [wp_ret]; imodintro
    iapply HQ
    iempintro
  · simp only [if_neg h, Prog.lift, Prog.bind_op, Prog.bind_ret]
    iintro ⟨⟨%f, Hh⟩, HQ⟩
    unfold halo0At
    iapply (wp_load 𝒱₀ (c : Thread nD τ) none Set.univ (m := haloM) (in0 rect01 (Or.inr rfl))) $$ Hh; iintro Hh
    iapply (wp_store 𝒱₀ (c : Thread nD τ) none Set.univ (m := haloM) (r := rect01) (Mk := Finset.univ) in0_store) $$ Hh; iintro Hh
    rw [wp_ret]; imodintro
    iapply HQ
    iexists ((haloM.access rect01).write (Elt F) f (k0_pay6 (F := F)) Finset.univ)
    isplitr [Hh]
    · ipureintro
      rw [View.readAt_rect]
      exact View.read_write_univ _ _
    iexact Hh

theorem zeroR_wp (c : Dev nD) (Q : PUnit → sProp 𝕄) :
    iprop(kept1 c ∗ (zeroed1 c -∗ Q ⟨⟩)) ⊢ wp frame (wpE (defs₀ (F := F)) 𝒱₀ (c : Thread nD τ) none) Set.univ (zeroR c) Q := by
  unfold zeroR kept1 zeroed1
  by_cases h : hasR c
  · simp only [if_pos h, Prog.pure_eq_ret]
    iintro ⟨-, HQ⟩
    rw [wp_ret]; imodintro
    iapply HQ
    iempintro
  · simp only [if_neg h, Prog.lift, Prog.bind_op, Prog.bind_ret]
    iintro ⟨⟨%f, Hh⟩, HQ⟩
    unfold halo1At
    iapply (wp_load 𝒱₀ (c : Thread nD τ) none Set.univ (m := haloM) (in1 rect11 (Or.inr rfl))) $$ Hh; iintro Hh
    iapply (wp_store 𝒱₀ (c : Thread nD τ) none Set.univ (m := haloM) (r := rect11) (Mk := Finset.univ) in1_store) $$ Hh; iintro Hh
    rw [wp_ret]; imodintro
    iapply HQ
    iexists ((haloM.access rect11).write (Elt F) f (k0_pay7 (F := F)) Finset.univ)
    isplitr [Hh]
    · ipureintro
      rw [View.readAt_rect]
      exact View.read_write_univ _ _
    iexact Hh

/-! ### The centre of the window, and what the halo buffer holds -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem read_x (f : Vec F S2x256x512 .f32) : (Memref.whole cc0_stg0_0 : Memref sig .tc .vmem S2x256x512 .f32).view.readAt (Elt F) (Rect.unit (s := S2x256x512) ![0, 0, 0] ![2, 256, 512] inb_S2x256x512_S2x256x512_0_0_0).toLoadRect f = f :=
  Memref.readAt_unit_zero (Elt F) cc0_stg0_0 hz3 _ f
theorem read_q (f : Vec F S512x256 .f32) : (Memref.whole cc0_stg1_0 : Memref sig .tc .vmem S512x256 .f32).view.readAt (Elt F) (Rect.unit (s := S512x256) ![0, 0] ![512, 256] inb_S512x256_S512x256_0_0).toLoadRect f = f :=
  Memref.readAt_unit_zero (Elt F) cc0_stg1_0 hz2 _ f
theorem read_k (f : Vec F S2x256x4x64 .f32) : kM.view.readAt (Elt F) (Rect.unit (s := S2x256x4x64) ![0, 0, 0, 0] ![2, 256, 4, 64] inb_S2x256x4x64_S2x256x4x64_0_0_0_0).toLoadRect f = f :=
  Memref.readAt_unit_zero (Elt F) cc0_stg2_0 hz4 _ f
theorem read_v (f : Vec F S2x256x4x64 .f32) : vM.view.readAt (Elt F) (Rect.unit (s := S2x256x4x64) ![0, 0, 0, 0] ![2, 256, 4, 64] inb_S2x256x4x64_S2x256x4x64_0_0_0_0).toLoadRect f = f :=
  Memref.readAt_unit_zero (Elt F) cc0_stg3_0 hz4 _ f
theorem read_o (f : Vec F S256x512 .f32) : (Memref.whole cc0_stg4_0 : Memref sig .tc .vmem S256x512 .f32).view.readAt (Elt F) (Rect.unit (s := S256x512) ![0, 0] ![256, 512] inb_S256x512_S256x512_0_0).toLoadRect f = f :=
  Memref.readAt_unit_zero (Elt F) cc0_stg4_0 hz2 _ f
theorem read_2 (f : Vec F S2x256x4x64 .bf16) : (Memref.whole cc0_scratch2 : Memref sig .tc .vmem S2x256x4x64 .bf16).view.readAt (Elt F) (Rect.unit (s := S2x256x4x64) ![0, 0, 0, 0] ![2, 256, 4, 64] inb_S2x256x4x64_S2x256x4x64_0_0_0_0).toLoadRect f = f :=
  Memref.readAt_unit_zero (Elt F) cc0_scratch2 hz4 _ f
theorem read_3 (f : Vec F S2x256x4x64 .bf16) : (Memref.whole cc0_scratch3 : Memref sig .tc .vmem S2x256x4x64 .bf16).view.readAt (Elt F) (Rect.unit (s := S2x256x4x64) ![0, 0, 0, 0] ![2, 256, 4, 64] inb_S2x256x4x64_S2x256x4x64_0_0_0_0).toLoadRect f = f :=
  Memref.readAt_unit_zero (Elt F) cc0_scratch3 hz4 _ f
theorem write_2 (f w : Vec F S2x256x4x64 .bf16) : ((Memref.whole cc0_scratch2 : Memref sig .tc .vmem S2x256x4x64 .bf16).access (Rect.unit (s := S2x256x4x64) ![0, 0, 0, 0] ![2, 256, 4, 64] inb_S2x256x4x64_S2x256x4x64_0_0_0_0)).write (Elt F) f w Finset.univ = w :=
  Memref.write_access_unit_zero_univ (Elt F) cc0_scratch2 hz4 _ f w
theorem write_3 (f w : Vec F S2x256x4x64 .bf16) : ((Memref.whole cc0_scratch3 : Memref sig .tc .vmem S2x256x4x64 .bf16).access (Rect.unit (s := S2x256x4x64) ![0, 0, 0, 0] ![2, 256, 4, 64] inb_S2x256x4x64_S2x256x4x64_0_0_0_0)).write (Elt F) f w Finset.univ = w :=
  Memref.write_access_unit_zero_univ (Elt F) cc0_scratch3 hz4 _ f w

theorem centre_wp (c : Dev nD) (gx : Vec F S2x256x512 .f32) (gq : Vec F S512x256 .f32) (gk gv : Vec F S2x256x4x64 .f32)
    (f2 f3 : Vec F S2x256x4x64 .bf16) (Q : (Σ' (v75 : FVec F S2x256x4x64 .bf16), IVec S256x256 1) → sProp 𝕄) :
    iprop(buf c cc0_stg0_0 gx ∗ buf c cc0_stg1_0 gq ∗ buf c cc0_stg2_0 gk ∗ buf c cc0_stg3_0 gv ∗ buf c cc0_scratch2 f2 ∗ buf c cc0_scratch3 f3
        ∗ ((buf c cc0_stg0_0 gx ∗ buf c cc0_stg1_0 gq ∗ buf c cc0_stg2_0 gk ∗ buf c cc0_stg3_0 gv ∗ buf c cc0_scratch2 (k0_pay8 gk) ∗ buf c cc0_scratch3 (k0_pay9 gv))
          -∗ Q ⟨k0_pay10 gx gq, k0_pay11⟩))
      ⊢ wp frame (wpE (defs₀ (F := F)) 𝒱₀ (c : Thread nD τ) none) Set.univ centre Q := by
  unfold centre
  simp only [Prog.lift, Prog.bind_op, Prog.bind_ret]
  iintro ⟨Hx, Hq, Hk, Hv, H2, H3, HQ⟩
  iapply (wp_load 𝒱₀ (c : Thread nD τ) none Set.univ (m := kM) (Finset.subset_univ _)) $$ Hk; iintro Hk
  rw [read_k]
  iapply (wp_load 𝒱₀ (c : Thread nD τ) none Set.univ (m := Memref.whole cc0_scratch2) (Finset.subset_univ _)) $$ H2; iintro H2
  iapply (wp_store 𝒱₀ (c : Thread nD τ) none Set.univ (m := Memref.whole cc0_scratch2) (r := Rect.unit (s := S2x256x4x64) ![0, 0, 0, 0] ![2, 256, 4, 64] inb_S2x256x4x64_S2x256x4x64_0_0_0_0) (Mk := Finset.univ) (Finset.subset_univ _)) $$ H2; iintro H2
  rw [write_2]
  iapply (wp_load 𝒱₀ (c : Thread nD τ) none Set.univ (m := vM) (Finset.subset_univ _)) $$ Hv; iintro Hv
  rw [read_v]
  iapply (wp_load 𝒱₀ (c : Thread nD τ) none Set.univ (m := Memref.whole cc0_scratch3) (Finset.subset_univ _)) $$ H3; iintro H3
  iapply (wp_store 𝒱₀ (c : Thread nD τ) none Set.univ (m := Memref.whole cc0_scratch3) (r := Rect.unit (s := S2x256x4x64) ![0, 0, 0, 0] ![2, 256, 4, 64] inb_S2x256x4x64_S2x256x4x64_0_0_0_0) (Mk := Finset.univ) (Finset.subset_univ _)) $$ H3; iintro H3
  rw [write_3]
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hq; iintro Hq
  rw [read_q]
  simp only [Prog.pure_eq_ret]
  rw [wp_ret]; imodintro
  iapply HQ
  isplitl [Hx]; · iexact Hx
  isplitl [Hq]; · iexact Hq
  isplitl [Hk]; · iexact Hk
  isplitl [Hv]; · iexact Hv
  isplitl [H2]; · iexact H2
  iexact H3

theorem quarters_wp (c : Dev nD) (f0 f1 : (cc0_scratch0 : Ref sig .tc).ty.Contents (Elt F))
    (Q : (Σ' (q00 : Vec F S1x1x2x128x4x64 .bf16) (q01 : Vec F S1x1x2x128x4x64 .bf16) (q10 : Vec F S1x1x2x128x4x64 .bf16), Vec F S1x1x2x128x4x64 .bf16) → sProp 𝕄) :
    iprop(halo0At c f0 ∗ halo1At c f1
        ∗ ((halo0At c f0 ∗ halo1At c f1) -∗ Q ⟨haloM.view.readAt (Elt F) rect00.toLoadRect f0, haloM.view.readAt (Elt F) rect01.toLoadRect f0,
            haloM.view.readAt (Elt F) rect10.toLoadRect f1, haloM.view.readAt (Elt F) rect11.toLoadRect f1⟩))
      ⊢ wp frame (wpE (defs₀ (F := F)) 𝒱₀ (c : Thread nD τ) none) Set.univ quarters Q := by
  unfold quarters halo0At halo1At
  simp only [Prog.lift, Prog.bind_op, Prog.bind_ret]
  iintro ⟨H0, H1, HQ⟩
  iapply (wp_load 𝒱₀ (c : Thread nD τ) none Set.univ (m := haloM) (in0 rect00 (Or.inl rfl))) $$ H0; iintro H0
  iapply (wp_load 𝒱₀ (c : Thread nD τ) none Set.univ (m := haloM) (in0 rect01 (Or.inr rfl))) $$ H0; iintro H0
  iapply (wp_load 𝒱₀ (c : Thread nD τ) none Set.univ (m := haloM) (in1 rect10 (Or.inl rfl))) $$ H1; iintro H1
  iapply (wp_load 𝒱₀ (c : Thread nD τ) none Set.univ (m := haloM) (in1 rect11 (Or.inr rfl))) $$ H1; iintro H1
  simp only [Prog.pure_eq_ret]
  rw [wp_ret]; imodintro
  iapply HQ
  isplitl [H0]; · iexact H0
  iexact H1

/-- The two halves of the halo buffer, whatever they hold, are the buffer. -/
theorem halo_whole (c : Dev nD) : iprop((∃ f, halo0At (F := F) c f) ∗ ∃ f, halo1At (F := F) c f) ⊢ (∃ f, buf c cc0_scratch0 f : sProp 𝕄) := by
  unfold halo0At halo1At
  rw [set_halo0, set_halo1]
  iintro ⟨⟨%f, H0⟩, ⟨%g, H1⟩⟩
  ihave H := (pointsTo_join (Ix := Unit) (Name := ℕ) (U := UU) (Lvl := ℕ) (ℓ := (c : Thread nD τ).loc cc0_scratch0) (q := fullShare) (f := f) (g := g) halves_disjoint) $$ [H0 H1]
  · isplitl [H0]; · iexact H0
    iexact H1
  rw [halves_union]
  iexists _
  iexact H

theorem send_whole (c : Dev nD) : iprop((∃ f, send0At (F := F) c f) ∗ ∃ f, send1At (F := F) c f) ⊢ (∃ f, buf c cc0_scratch1 f : sProp 𝕄) := by
  unfold send0At send1At
  rw [set_send0, set_send1]
  iintro ⟨⟨%f, H0⟩, ⟨%g, H1⟩⟩
  ihave H := (pointsTo_join (Ix := Unit) (Name := ℕ) (U := UU) (Lvl := ℕ) (ℓ := (c : Thread nD τ).loc cc0_scratch1) (q := fullShare) (f := f) (g := g) halves_disjoint) $$ [H0 H1]
  · isplitl [H0]; · iexact H0
    iexact H1
  rw [halves_union]
  iexists _
  iexact H

end Cert.KernelIdeal.Halo

end
-- ==== Proof.RunIdeal.Values.lean ====
/-
The kernel's arithmetic as functions of what a device sees.

A device sees its own blocks (`Near`) and the four quarters of its halo buffer (`Far`). Every intermediate vector
of the kernel that a later part of the program uses is named here as a function of these, under the number the
program gives it.
-/
module

public import proofs.«01_k».proof.Proof.RunIdeal.Local

@[expose] public section

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A device's place in the line and its own blocks. -/
structure Near (F : FTy → Type) where
  w : BitVec 32
  x : Vec F S2x256x512 .f32
  wq : Vec F S512x256 .f32
  k : Vec F S2x256x4x64 .f32
  v : Vec F S2x256x4x64 .f32
  wo : Vec F S256x512 .f32

/-- The quarters of the halo buffer: keys and values from before, keys and values from after. -/
structure Far (F : FTy → Type) where
  q00 : Vec F S1x1x2x128x4x64 .bf16
  q01 : Vec F S1x1x2x128x4x64 .bf16
  q10 : Vec F S1x1x2x128x4x64 .bf16
  q11 : Vec F S1x1x2x128x4x64 .bf16

variable (n : Near F) (h : Far F)

def v75 (n : Near F) : FVec F S2x256x4x64 .bf16 := k0_pay10 n.x n.wq
def v81 : IVec S256x256 1 := k0_pay11
def v92 (n : Near F) : Vec F S2x256x4x64 .bf16 := k0_pay8 n.k
def v93 (n : Near F) : Vec F S2x256x4x64 .bf16 := k0_pay9 n.v
def v87 (n : Near F) : IVec S128x128 1 := k0_pay12 n.w
def v91 (n : Near F) : IVec S128x128 1 := k0_pay13 n.w
def v105 (n : Near F) : FVec F S256x1 .f32 := k0_pay15 (v75 n) v81 (v92 n)
def v109 (n : Near F) : FVec F S256x64 .f32 := k0_pay16 (v75 n) v81 (v92 n) (v93 n)
def v121 (n : Near F) : FVec F S256x1 .f32 := k0_pay18 (v75 n) v81 (v92 n)
def v122 (n : Near F) : FVec F S256x256 .bf16 := k0_pay19 (v75 n) v81 (v92 n)
def v125 (n : Near F) : FVec F S256x64 .f32 := k0_pay20 (v93 n) (v122 n)
def v137 (n : Near F) : FVec F S256x1 .f32 := k0_pay22 (v75 n) v81 (v92 n)
def v141 (n : Near F) : FVec F S256x64 .f32 := k0_pay23 (v75 n) v81 (v92 n) (v93 n)
def v153 (n : Near F) : FVec F S256x1 .f32 := k0_pay25 (v75 n) v81 (v92 n)
def v157 (n : Near F) : FVec F S256x64 .f32 := k0_pay26 (v75 n) v81 (v92 n) (v93 n)
def v167 (n : Near F) : FVec F S256x256 .f32 := k0_pay27 (v75 n) v81 (v92 n)
def v169 (n : Near F) : FVec F S256x1 .f32 := k0_pay28 (v167 n)
def v173 (n : Near F) : FVec F S256x64 .f32 := k0_pay29 (v93 n) (v167 n)
def v185 (n : Near F) : FVec F S256x1 .f32 := k0_pay31 (v75 n) v81 (v92 n)
def v189 (n : Near F) : FVec F S256x64 .f32 := k0_pay32 (v75 n) v81 (v92 n) (v93 n)
def v201 (n : Near F) : FVec F S256x1 .f32 := k0_pay34 (v75 n) v81 (v92 n)
def v205 (n : Near F) : FVec F S256x64 .f32 := k0_pay35 (v75 n) v81 (v92 n) (v93 n)
def v212 (n : Near F) : FVec F S256x256 .f32 := k0_pay36 (v75 n) (v92 n)
def v213 : FVec F S256x256 .f32 := k0_pay37 (F := F)
def v217 (n : Near F) : FVec F S256x1 .f32 := k0_pay39 v81 (v212 n) (v213 (F := F))
def v221 (n : Near F) : FVec F S256x64 .f32 := k0_pay40 v81 (v93 n) (v212 n) (v213 (F := F))
def v229 (h : Far F) : FVec F S2x128x4x64 .bf16 := k0_pay41 h.q00
def v231 (h : Far F) : FVec F S2x128x4x64 .bf16 := k0_pay42 h.q01
def v233 (h : Far F) : FVec F S2x128x4x64 .bf16 := k0_pay43 h.q10
def v235 (h : Far F) : FVec F S2x128x4x64 .bf16 := k0_pay44 h.q11
def v240 (n : Near F) (h : Far F) : FVec F S128x128 .f32 := k0_pay45 (v75 n) h.q00
def v273 (n : Near F) (h : Far F) : FVec F S256x64 .f32 := k0_pay46 (v75 n) (v87 n) (v91 n) (v105 n) (v109 n) (v231 h) (v233 h) (v235 h) (v240 n h)
def v283 (n : Near F) (h : Far F) : FVec F S128x128 .f32 := k0_pay47 (v75 n) (v87 n) (v229 h)
def v287 (n : Near F) (h : Far F) : FVec F S128x64 .f32 := k0_pay48 (v75 n) (v87 n) (v229 h) (v231 h)
def v311 (n : Near F) (h : Far F) : FVec F S256x64 .f32 := k0_pay49 (v75 n) (v91 n) (v121 n) (v125 n) (v233 h) (v235 h) (v283 n h) (v287 n h)
def v325 (n : Near F) (h : Far F) : FVec F S128x64 .f32 := k0_pay51 (v75 n) (v87 n) (v229 h) (v231 h)
def v327 (n : Near F) (h : Far F) : FVec F S128x1 .f32 := k0_pay52 (v75 n) (v87 n) (v229 h)
def v334 (n : Near F) (h : Far F) : FVec F S128x128 .f32 := k0_pay53 (v75 n) (v233 h)
def v349 (n : Near F) (h : Far F) : FVec F S256x64 .f32 := k0_pay54 (v91 n) (v137 n) (v141 n) (v235 h) (v325 n h) (v327 n h) (v334 n h)
def v363 (n : Near F) (h : Far F) : FVec F S128x64 .f32 := k0_pay56 (v75 n) (v87 n) (v229 h) (v231 h)
def v365 (n : Near F) (h : Far F) : FVec F S128x1 .f32 := k0_pay57 (v75 n) (v87 n) (v229 h)
def v379 (n : Near F) (h : Far F) : FVec F S128x64 .f32 := k0_pay59 (v75 n) (v91 n) (v233 h) (v235 h)
def v381 (n : Near F) (h : Far F) : FVec F S128x1 .f32 := k0_pay60 (v75 n) (v91 n) (v233 h)
def v410 (n : Near F) (h : Far F) : FVec F S128x64 .f32 := k0_pay63 (v75 n) (v87 n) (v229 h) (v231 h)
def v412 (n : Near F) (h : Far F) : FVec F S128x1 .f32 := k0_pay64 (v75 n) (v87 n) (v229 h)
def v422 (n : Near F) (h : Far F) : FVec F S128x128 .f32 := k0_pay65 (v75 n) (v91 n) (v233 h)
def v423 (n : Near F) (h : Far F) : FVec F S128x128 .bf16 := k0_pay66 (v75 n) (v91 n) (v233 h)
def v425 (h : Far F) : FVec F S128x64 .bf16 := k0_pay67 (v235 h)
def v434 (n : Near F) (h : Far F) : FVec F S256x64 .f32 := k0_pay68 (v169 n) (v173 n) (v410 n h) (v412 n h) (v422 n h) (v423 n h) (v425 h) (constant S128x64 .f32 0x00000000#32)
def v472 (n : Near F) (h : Far F) : FVec F S256x64 .f32 := k0_pay69 (v75 n) (v87 n) (v91 n) (v185 n) (v189 n) (v229 h) (v231 h) (v233 h) (v235 h)
def v474 (n : Near F) : FVec F S128x64 .bf16 := k0_pay70 (v75 n)
def v510 (n : Near F) (h : Far F) : FVec F S256x64 .f32 := k0_pay71 (v75 n) (v87 n) (v91 n) (v201 n) (v205 n) (v229 h) (v231 h) (v233 h) (v235 h) (v474 n)
def v520 (n : Near F) (h : Far F) : FVec F S128x128 .f32 := k0_pay72 (v75 n) (v87 n) (v229 h)
def v521 (n : Near F) (h : Far F) : FVec F S128x128 .bf16 := k0_pay73 (v75 n) (v87 n) (v229 h)

/-- The two rows of the result. -/
def row0 (n : Near F) (h : Far F) : FVec F S1x256x512 .f32 := k0_pay61 (v153 n) (v157 n) (v273 n h) (v311 n h) (v349 n h) (v363 n h) (v365 n h) (v379 n h) (v381 n h) n.wo
def row1 (n : Near F) (h : Far F) : FVec F S1x256x512 .f32 := k0_pay1 (k0_pay74 (v75 n) (v91 n) (v217 n) (v221 n) (v231 h) (v233 h) (v235 h) (v434 n h) (v472 n h) (v510 n h) (v520 n h) (v521 n h) n.wo)

/-! ### The parts that only compute -/

set_option maxRecDepth 20000

theorem part5_eq (n : Near F) : k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (v75 n) v81 (v92 n) (v93 n) (v122 n)
    = pure ⟨(v125 n), (v137 n), (v141 n), (v153 n), (v157 n), (v167 n)⟩ := by rw [k0_part5_eq_skeleton]; rfl

theorem part6_eq (n : Near F) : k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (v75 n) v81 (v92 n) (v93 n) (v167 n)
    = pure ⟨(v169 n), (v173 n), (v185 n), (v189 n), (v201 n), (v205 n), (v212 n), (v213 (F := F))⟩ := by rw [k0_part6_eq_skeleton]; rfl

theorem part8_eq (n : Near F) (h : Far F) : k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (v75 n) (v87 n) (v91 n) (v105 n) (v109 n) (v229 h) (v231 h) (v233 h) (v235 h) (v240 n h)
    = pure ⟨(v273 n h), (v283 n h), (v287 n h)⟩ := by rw [k0_part8_eq_skeleton]; rfl

theorem part9_eq (n : Near F) (h : Far F) : k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (v75 n) (v87 n) (v91 n) (v121 n) (v125 n) (v229 h) (v231 h) (v233 h) (v235 h) (v283 n h) (v287 n h)
    = pure ⟨(v311 n h), (v325 n h), (v327 n h), (v334 n h)⟩ := by rw [k0_part9_eq_skeleton]; rfl

theorem part10_eq (n : Near F) (h : Far F) : k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (v75 n) (v87 n) (v91 n) (v137 n) (v141 n) (v229 h) (v231 h) (v233 h) (v235 h) (v325 n h) (v327 n h) (v334 n h)
    = pure ⟨(v349 n h), (v363 n h), (v365 n h), (v379 n h), (v381 n h)⟩ := by rw [k0_part10_eq_skeleton]; rfl

theorem part12_eq (n : Near F) (h : Far F) : k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (v75 n) (v87 n) (v91 n) (v169 n) (v173 n) (v185 n) (v189 n) (v229 h) (v231 h) (v233 h) (v235 h) (v410 n h) (v412 n h) (v422 n h) (v423 n h) (v425 h) (constant S128x64 .f32 0x00000000#32)
    = pure ⟨(v434 n h), (v472 n h), (v474 n)⟩ := by rw [k0_part12_eq_skeleton]; rfl

theorem part13_eq (n : Near F) (h : Far F) : k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (v75 n) (v87 n) (v91 n) (v201 n) (v205 n) (v229 h) (v231 h) (v233 h) (v235 h) (v474 n)
    = pure ⟨(v510 n h), (v520 n h), (v521 n h)⟩ := by rw [k0_part13_eq_skeleton]; rfl

/-! ### The parts that load or store and compute -/

theorem part4_wp (c : Dev nD) (n : Near F) (Q : _ → sProp 𝕄) :
    iprop(buf c cc0_scratch2 (v92 n) ∗ buf c cc0_scratch3 (v93 n) ∗ ((buf c cc0_scratch2 (v92 n) ∗ buf c cc0_scratch3 (v93 n)) -∗ Q ⟨(v87 n), (v91 n), (v92 n), (v93 n), (v105 n), (v109 n), (v121 n), (v122 n)⟩))
      ⊢ wp frame (wpE (defs₀ (F := F)) 𝒱₀ (c : Thread nD τ) none) Set.univ (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 n.w (v75 n) v81) Q := by
  rw [k0_part4_eq_skeleton]; unfold k0_part4_skel v87 v91 v105 v109 v121 v122
  simp only [Prog.lift, Prog.bind_op, Prog.bind_ret]
  iintro ⟨H2, H3, HQ⟩
  iapply (wp_load 𝒱₀ (c : Thread nD τ) none Set.univ (m := Memref.whole cc0_scratch2) (Finset.subset_univ _)) $$ H2; iintro H2
  rw [read_2 (v92 n)]
  iapply (wp_load 𝒱₀ (c : Thread nD τ) none Set.univ (m := Memref.whole cc0_scratch3) (Finset.subset_univ _)) $$ H3; iintro H3
  rw [read_3 (v93 n)]
  simp only [Prog.pure_eq_ret]
  rw [wp_ret]; imodintro
  iapply HQ
  isplitl [H2]; · iexact H2
  iexact H3

/-- The rectangles of the two rows in the result's block, and the block after both are written. -/
abbrev rowR0 : Rect S2x256x512 := Rect.unit (s := S2x256x512) ![0, 0, 0] ![1, 256, 512] inb_S2x256x512_S1x256x512_0_0_0
abbrev rowR1 : Rect S2x256x512 := Rect.unit (s := S2x256x512) ![1, 0, 0] ![1, 256, 512] inb_S2x256x512_S1x256x512_1_0_0
abbrev oM : Memref sig .tc .vmem S2x256x512 .f32 := Memref.whole cc0_stg5_0
abbrev oneRow (f : Vec F S2x256x512 .f32) (r0 : Vec F S1x256x512 .f32) : Vec F S2x256x512 .f32 :=
  (oM.access rowR0).write (Elt F) f r0 Finset.univ
abbrev rows (f : Vec F S2x256x512 .f32) (r0 r1 : Vec F S1x256x512 .f32) : Vec F S2x256x512 .f32 :=
  (oM.access rowR1).write (Elt F) (oneRow f r0) r1 Finset.univ

theorem part11_wp (c : Dev nD) (n : Near F) (h : Far F) (f : Vec F S2x256x512 .f32) (Q : _ → sProp 𝕄) :
    iprop(buf c cc0_stg4_0 n.wo ∗ buf c cc0_stg5_0 f ∗ ((buf c cc0_stg4_0 n.wo ∗ buf c cc0_stg5_0 (oneRow f (row0 n h))) -∗ Q ⟨(v410 n h), (v412 n h), (v422 n h), (v423 n h), (v425 h), (constant S128x64 .f32 0x00000000#32)⟩))
      ⊢ wp frame (wpE (defs₀ (F := F)) 𝒱₀ (c : Thread nD τ) none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (v75 n) (v87 n) (v91 n) (v153 n) (v157 n) (v229 h) (v231 h) (v233 h) (v235 h) (v273 n h) (v311 n h) (v349 n h) (v363 n h) (v365 n h) (v379 n h) (v381 n h)) Q := by
  rw [k0_part11_eq_skeleton]; unfold k0_part11_skel v410 v412 v422 v423 v425
  simp only [Prog.lift, Prog.bind_op, Prog.bind_ret]
  iintro ⟨H4, H5, HQ⟩
  iapply (wp_load 𝒱₀ (c : Thread nD τ) none Set.univ (m := Memref.whole cc0_stg4_0) (Finset.subset_univ _)) $$ H4; iintro H4
  rw [read_o n.wo]
  iapply (wp_load 𝒱₀ (c : Thread nD τ) none Set.univ (m := oM) (Finset.subset_univ _)) $$ H5; iintro H5
  iapply (wp_store 𝒱₀ (c : Thread nD τ) none Set.univ (m := oM) (r := rowR0) (Mk := Finset.univ) (Finset.subset_univ _)) $$ H5; iintro H5
  simp only [Prog.pure_eq_ret]
  rw [wp_ret]; imodintro
  iapply HQ
  isplitl [H4]; · iexact H4
  iexact H5

end Cert.KernelIdeal.Halo

end
-- ==== Proof.RunIdeal.Body.lean ====
/-
The whole body on one device.
-/
module

public import proofs.«01_k».proof.Proof.RunIdeal.Values

@[expose] public section

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 5 → ℕ)

/-- What device `c` sees of its own. -/
def near (c : Dev nD) : Near F := ⟨place c, xAt m c, wqAt m c, kAt m c, vAt m c, woAt m c⟩

/-- What it can see of its neighbours. -/
def FarOk (c : Dev nD) (h : Far F) : Prop :=
  (if hasL c then h.q00 = k0_pay4 (hi (kAt m (prv c))) ∧ h.q01 = k0_pay5 (hi (vAt m (prv c))) else h.q01 = k0_pay6)
    ∧ (if hasR c then h.q10 = k0_pay2 (lo (kAt m (nxt c))) ∧ h.q11 = k0_pay3 (lo (vAt m (nxt c))) else h.q11 = k0_pay7)

/-- What the body can leave in the result's block. -/
def Out (c : Dev nD) (X : Vec F S2x256x512 .f32) : Prop :=
  ∃ h : Far F, FarOk m c h ∧ ∃ f, X = rows f (row0 (near m c) h) (row1 (near m c) h)

theorem farOk_of (c : Dev nD) (f0 f1 : (cc0_scratch0 : Ref sig .tc).ty.Contents (Elt F)) (h0 : Ok0 m c f0) (h1 : Ok1 m c f1) :
    FarOk m c ⟨haloM.view.readAt (Elt F) rect00.toLoadRect f0, haloM.view.readAt (Elt F) rect01.toLoadRect f0,
      haloM.view.readAt (Elt F) rect10.toLoadRect f1, haloM.view.readAt (Elt F) rect11.toLoadRect f1⟩ := by
  unfold Ok0 FromL at h0; unfold Ok1 FromR at h1
  exact ⟨h0, h1⟩

/-- The exchange's state a device starts from. -/
def ghost (c : Dev nD) : sProp 𝕄 :=
  iprop(invs m K c
    ∗ (atPos ER (barCell c) 0 ∅ 0 ∗ atPos ER (snd0Cell c) 0 ∅ 0 ∗ atPos ER (snd1Cell c) 0 ∅ 0 ∗ atPos ER (rcv0Cell c) 0 ∅ 0 ∗ atPos ER (rcv1Cell c) 0 ∅ 0)
    ∗ (reached ER (barCell (nxt c)) 0 ∗ reached ER (barCell (prv c)) 0 ∗ reached ER (rcv0Cell (nxt c)) 0 ∗ reached ER (rcv1Cell (prv c)) 0
      ∗ reached ER (snd0Cell c) 0 ∗ reached ER (snd1Cell c) 0)
    ∗ dutyTok ER (barCell (nxt c)) 0 false ∗ dutyTok ER (barCell (prv c)) 0 true ∗ dutyTok ER (rcv0Cell (nxt c)) 0 false
    ∗ dutyTok ER (rcv1Cell (prv c)) 0 false ∗ dutyTok ER (snd0Cell c) 0 false ∗ dutyTok ER (snd1Cell c) 0 false)

/-- The credits it starts from. -/
def credits (c : Dev nD) : sProp 𝕄 :=
  iprop(cred (tallyAt (barCell c) () (if hasL c then 1 else 0)) ∗ cred (tallyAt (barCell c) () (if hasR c then 1 else 0))
    ∗ cred (tallyAt (rcv0Cell c) () (if hasL c then N else 0)) ∗ cred (tallyAt (rcv1Cell c) () (if hasR c then N else 0)))

def scratch (c : Dev nD) : sProp 𝕄 :=
  iprop((∃ f, buf c cc0_scratch0 f) ∗ (∃ f, buf c cc0_scratch1 f) ∗ (∃ f, buf c cc0_scratch2 f) ∗ ∃ f, buf c cc0_scratch3 f)

def inputs (c : Dev nD) : sProp 𝕄 :=
  iprop(buf c cc0_stg0_0 (near m c).x ∗ buf c cc0_stg1_0 (near m c).wq ∗ buf c cc0_stg2_0 (near m c).k ∗ buf c cc0_stg3_0 (near m c).v
    ∗ buf c cc0_stg4_0 (near m c).wo)

def counters (c : Dev nD) : sProp 𝕄 :=
  iprop(semVal (barCell c) 0 ∗ semVal (snd0Cell c) 0 ∗ semVal (snd1Cell c) 0 ∗ semVal (rcv0Cell c) 0 ∗ semVal (rcv1Cell c) 0)

def bodyPre (c : Dev nD) (W : Waits sig Unit) : sProp 𝕄 :=
  iprop(ghost m K c ∗ credits c ∗ levAts L lv ∗ scratch c ∗ owes (c : Thread nD τ) (O₀ c) W ∗ inputs m c ∗ ∃ f, buf c cc0_stg5_0 f)

def bodyPost (c : Dev nD) : sProp 𝕄 :=
  iprop(counters c ∗ scratch c ∗ (∃ W, owes (c : Thread nD τ) 0 W) ∗ inputs m c ∗ ∃ X, ⌜Out m c X⌝ ∗ buf c cc0_stg5_0 X)

/-- The cells close: their counters are zero. -/
theorem close_all (c : Dev nD) :
    iprop(invs m K c ∗ atPos ER (barCell c) 1 ∅ 0 ∗ atPos ER (snd0Cell c) (rounds (hasR c)) ∅ 0 ∗ atPos ER (snd1Cell c) (rounds (hasL c)) ∅ 0
        ∗ atPos ER (rcv0Cell c) (rounds (hasL c)) ∅ 0 ∗ atPos ER (rcv1Cell c) (rounds (hasR c)) ∅ 0)
      ⊢ (|={Set.univ}=> counters c : sProp 𝕄) := by
  unfold invs counters
  iintro ⟨⟨#H0, #H1, #H2, #H3, #H4, -⟩, A0, A1, A2, A3, A4⟩
  imod (Rounds.cell_close ER (rd m) (Set.mem_univ (K (c, 0))) (fun h => h) (R := 1) (duties_later m (barCell c))) $$ [A0] with Z0
  · isplitr; · iexact H0
    iexact A0
  imod (Rounds.cell_close ER (rd m) (Set.mem_univ (K (c, 1))) (fun h => h) (R := rounds (hasR c)) (duties_past m c snd0 (hasR c) (duties_snd0 m c))) $$ [A1] with Z1
  · isplitr; · iexact H1
    iexact A1
  imod (Rounds.cell_close ER (rd m) (Set.mem_univ (K (c, 2))) (fun h => h) (R := rounds (hasL c)) (duties_past m c snd1 (hasL c) (duties_snd1 m c))) $$ [A2] with Z2
  · isplitr; · iexact H2
    iexact A2
  imod (Rounds.cell_close ER (rd m) (Set.mem_univ (K (c, 3))) (fun h => h) (R := rounds (hasL c)) (duties_past m c rcv0 (hasL c) (duties_rcv0 m c))) $$ [A3] with Z3
  · isplitr; · iexact H3
    iexact A3
  imod (Rounds.cell_close ER (rd m) (Set.mem_univ (K (c, 4))) (fun h => h) (R := rounds (hasR c)) (duties_past m c rcv1 (hasR c) (duties_rcv1 m c))) $$ [A4] with Z4
  · isplitr; · iexact H4
    iexact A4
  imodintro
  isplitl [Z0]; · iexact Z0
  isplitl [Z1]; · iexact Z1
  isplitl [Z2]; · iexact Z2
  isplitl [Z3]; · iexact Z3
  iexact Z4

set_option maxRecDepth 20000 in
set_option maxHeartbeats 4000000 in
/-- The body, piece after piece, from what it starts with to what it leaves. -/
theorem body_wp (c : Dev nD) (W : Waits sig Unit) (Q : PUnit → sProp 𝕄) :
    iprop(bodyPre m K c W ∗ (bodyPost m c -∗ Q ⟨⟩))
      ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Q := by
  simp only [cc0_body_eq_skeleton]; unfold cc0_body_skel
  rw [k0_part14_eq_skeleton]; unfold k0_part14_skel
  rw [part1_eq]
  simp only [wp_bind]
  simp only [Prog.lift, wp_deviceId]
  unfold bodyPre ghost credits scratch inputs
  iintro ⟨⟨⟨#HI, ⟨A0, A1, A2, A3, A4⟩, ⟨#RBN, #RBP, #RVN, #RVP, #RS0, #RS1⟩, TBN, TBP, TVN, TVP, TS0, TS1⟩, ⟨CL, CR, CV0, CV1⟩, #Hlev,
    ⟨⟨%f0, S0⟩, ⟨%f1, S1⟩, ⟨%f2, S2⟩, ⟨%f3, S3⟩⟩, HO, ⟨I0, I1, I2, I3, I4⟩, ⟨%f5, I5⟩⟩, HQ⟩
  rw [wp_ret]; imodintro
  ihave S0 := (halo_halves c f0).1 $$ S0
  icases S0 with ⟨S0, S0'⟩
  iapply (sigL_wp m K c W _)
  isplitr; · iexact HI
  isplitl [HO]; · iexact HO
  isplitl [TBP]; · iexact TBP
  isplitr; · iexact RBP
  isplitl [S0]; · iexists f0; iexact S0
  iintro ⟨HO, K0⟩
  iapply (sigR_wp m K c W _)
  isplitr; · iexact HI
  isplitl [HO]; · iexact HO
  isplitl [TBN]; · iexact TBN
  isplitr; · iexact RBN
  isplitl [S0']; · iexists f0; iexact S0'
  iintro ⟨HO, K1⟩
  iapply (stageLo_wp c (near m c).k (near m c).v f1 _)
  isplitl [I2]; · iexact I2
  isplitl [I3]; · iexact I3
  isplitl [S1]; · iexact S1
  iintro ⟨I2, I3, S1⟩
  simp only [Prog.pure_eq_ret]
  rw [wp_ret]; imodintro
  dsimp only
  rw [part2_eq]
  simp only [wp_bind]
  iapply (stageHi_wp c (near m c).k (near m c).v f1 _ _ _)
  isplitl [I2]; · iexact I2
  isplitl [I3]; · iexact I3
  isplitl [S1]; · iexact S1
  iintro ⟨I2, I3, S1⟩
  ihave S1 := (send_halves c _).1 $$ S1
  icases S1 with ⟨S1, S1'⟩
  iapply (waits_wp m K c W _)
  isplitr; · iexact HI
  isplitl [CL]; · iexact CL
  isplitl [CR]; · iexact CR
  isplitl [HO]; · iexact HO
  isplitr; · iexact Hlev
  isplitl [A0]; · iexact A0
  iintro ⟨⟨%W1, HO⟩, A0, LL, LR⟩
  iapply (sendR_wp m K c W1 _ (filled_reads f1 _ _ _ _) _)
  isplitr; · iexact HI
  isplitl [HO]; · iexact HO
  isplitl [S1']; · iexact S1'
  isplitl [LR]; · iexact LR
  isplitl [TS0]; · iexact TS0
  isplitr; · iexact RS0
  isplitl [TVN]; · iexact TVN
  isplitr; · iexact RVN
  iintro ⟨HO, G1⟩
  iapply (sendL_wp m K c W1 _ (filled_reads f1 _ _ _ _) _)
  isplitr; · iexact HI
  isplitl [HO]; · iexact HO
  isplitl [S1]; · iexact S1
  isplitl [LL]; · iexact LL
  isplitl [TS1]; · iexact TS1
  isplitr; · iexact RS1
  isplitl [TVP]; · iexact TVP
  isplitr; · iexact RVP
  iintro ⟨HO, G0⟩
  simp only [Prog.pure_eq_ret]
  rw [wp_ret]; imodintro
  rw [part3_eq]
  simp only [wp_bind]
  iapply (zeroL_wp c _)
  isplitl [K0]; · iexact K0
  iintro Z0
  iapply (zeroR_wp c _)
  isplitl [K1]; · iexact K1
  iintro Z1
  iapply (centre_wp c (near m c).x (near m c).wq (near m c).k (near m c).v f2 f3 _)
  isplitl [I0]; · iexact I0
  isplitl [I1]; · iexact I1
  isplitl [I2]; · iexact I2
  isplitl [I3]; · iexact I3
  isplitl [S2]; · iexact S2
  isplitl [S3]; · iexact S3
  iintro ⟨I0, I1, I2, I3, S2, S3⟩
  dsimp only
  rw [show k0_pay10 (near m c).x (near m c).wq = v75 (near m c) from rfl, show (k0_pay11 : IVec S256x256 1) = v81 from rfl]
  iapply (part4_wp c (near m c) _)
  isplitl [S2]; · iexact S2
  isplitl [S3]; · iexact S3
  iintro ⟨S2, S3⟩
  dsimp only
  rw [part5_eq]
  simp only [Prog.pure_eq_ret]
  rw [wp_ret]; imodintro
  dsimp only
  rw [part6_eq]
  simp only [Prog.pure_eq_ret]
  rw [wp_ret]; imodintro
  dsimp only
  rw [part7_eq]
  simp only [wp_bind]
  iapply (recvL_wp m K c W1 _)
  isplitr; · iexact HI
  isplitl [CV0]; · iexact CV0
  isplitl [G0]; · iexact G0
  isplitl [HO]; · iexact HO
  isplitl [A3]; · iexact A3
  isplitl [A2]; · iexact A2
  isplitl [Z0]; · iexact Z0
  iintro ⟨⟨%W2, HO⟩, A3, A2, ⟨%g0, %hg0, S0⟩, S1⟩
  iapply (recvR_wp m K c W2 _)
  isplitr; · iexact HI
  isplitl [CV1]; · iexact CV1
  isplitl [G1]; · iexact G1
  isplitl [HO]; · iexact HO
  isplitl [A4]; · iexact A4
  isplitl [A1]; · iexact A1
  isplitl [Z1]; · iexact Z1
  iintro ⟨⟨%W3, HO⟩, A4, A1, ⟨%g1, %hg1, S0'⟩, S1'⟩
  iapply (quarters_wp c g0 g1 _)
  isplitl [S0]; · iexact S0
  isplitl [S0']; · iexact S0'
  iintro ⟨S0, S0'⟩
  obtain ⟨h, hh⟩ : ∃ h : Far F, h = ⟨haloM.view.readAt (Elt F) rect00.toLoadRect g0, haloM.view.readAt (Elt F) rect01.toLoadRect g0,
      haloM.view.readAt (Elt F) rect10.toLoadRect g1, haloM.view.readAt (Elt F) rect11.toLoadRect g1⟩ := ⟨_, rfl⟩
  have hok : FarOk m c h := by rw [hh]; exact farOk_of m c g0 g1 hg0 hg1
  have e00 : haloM.view.readAt (Elt F) rect00.toLoadRect g0 = h.q00 := by rw [hh]
  have e01 : haloM.view.readAt (Elt F) rect01.toLoadRect g0 = h.q01 := by rw [hh]
  have e10 : haloM.view.readAt (Elt F) rect10.toLoadRect g1 = h.q10 := by rw [hh]
  have e11 : haloM.view.readAt (Elt F) rect11.toLoadRect g1 = h.q11 := by rw [hh]
  clear hh
  dsimp only
  rw [e00, e01, e10, e11]
  simp only [Prog.pure_eq_ret]
  rw [wp_ret]; imodintro
  dsimp only
  rw [show k0_pay39 v81 (v212 (near m c)) (v213 (F := F)) = v217 (near m c) from rfl, show k0_pay40 v81 (v93 (near m c)) (v212 (near m c)) (v213 (F := F)) = v221 (near m c) from rfl,
    show k0_pay41 h.q00 = v229 h from rfl, show k0_pay42 h.q01 = v231 h from rfl, show k0_pay43 h.q10 = v233 h from rfl, show k0_pay44 h.q11 = v235 h from rfl]
  rw [show k0_pay45 (v75 (near m c)) h.q00 = v240 (near m c) h from rfl]
  rw [part8_eq]
  simp only [Prog.pure_eq_ret]
  rw [wp_ret]; imodintro
  dsimp only
  rw [part9_eq]
  simp only [Prog.pure_eq_ret]
  rw [wp_ret]; imodintro
  dsimp only
  rw [part10_eq]
  simp only [Prog.pure_eq_ret]
  rw [wp_ret]; imodintro
  dsimp only
  iapply (part11_wp c (near m c) h f5 _)
  isplitl [I4]; · iexact I4
  isplitl [I5]; · iexact I5
  iintro ⟨I4, I5⟩
  dsimp only
  rw [part12_eq]
  simp only [Prog.pure_eq_ret]
  rw [wp_ret]; imodintro
  dsimp only
  rw [part13_eq]
  simp only [Prog.pure_eq_ret]
  rw [wp_ret]; imodintro
  dsimp only
  iapply (wp_load 𝒱₀ (c : Thread nD τ) none Set.univ (m := Memref.whole cc0_stg4_0) (Finset.subset_univ _)) $$ I4; iintro I4
  rw [read_o (near m c).wo, wp_ret]; imodintro
  iapply (wp_load 𝒱₀ (c : Thread nD τ) none Set.univ (m := oM) (Finset.subset_univ _)) $$ I5; iintro I5
  rw [wp_ret]; imodintro
  rw [wp_ret]; imodintro
  iapply (wp_store 𝒱₀ (c : Thread nD τ) none Set.univ (m := oM) (r := rowR1) (Mk := Finset.univ) (Finset.subset_univ _)) $$ I5; iintro I5
  rw [wp_ret]; imodintro
  imod (close_all m K c) $$ [A0 A1 A2 A3 A4] with HZ
  · isplitr; · iexact HI
    isplitl [A0]; · iexact A0
    isplitl [A1]; · iexact A1
    isplitl [A2]; · iexact A2
    isplitl [A3]; · iexact A3
    iexact A4
  ihave S0 := (halo_whole c) $$ [S0 S0']
  · isplitl [S0]; · iexists _; iexact S0
    iexists _; iexact S0'
  ihave S1 := (send_whole c) $$ [S1 S1']
  · isplitl [S1]; · iexact S1
    iexact S1'
  rw [wp_ret]; imodintro
  iapply HQ
  unfold bodyPost scratch inputs
  isplitl [HZ]; · iexact HZ
  isplitl [S0 S1 S2 S3]
  · isplitl [S0]; · iexact S0
    isplitl [S1]; · iexact S1
    isplitl [S2]; · iexists _; iexact S2
    iexists _; iexact S3
  isplitl [HO]; · iexists _; iexact HO
  isplitl [I0 I1 I2 I3 I4]
  · isplitl [I0]; · iexact I0
    isplitl [I1]; · iexact I1
    isplitl [I2]; · iexact I2
    isplitl [I3]; · iexact I3
    iexact I4
  iexists (rows f5 (row0 (near m c) h) (row1 (near m c) h))
  isplitr
  · ipureintro; exact ⟨h, hok, f5, rfl⟩
  iexact I5

end Cert.KernelIdeal.Halo

end
-- ==== Proof.Value.Words.lean ====
/-
The masks' words: comparisons of small naturals written as 32-bit words.
-/
module

public import Idealize.ShloMosaic.PureOps

@[expose] public section

namespace Cert.Window

open Idealize.ShloMosaic

theorem toInt_small (a : ℕ) (ha : a < 16384) : (BitVec.ofNat 32 a).toInt = a := by
  rw [BitVec.toInt_eq_toNat_cond, BitVec.toNat_ofNat]; omega

theorem le_bit (a b : ℕ) (ha : a < 16384) (hb : b < 16384) :
    IntOp.cmpi .sle (BitVec.ofNat 32 a) (BitVec.ofNat 32 b) = 1#1 ↔ a ≤ b := by
  show BitVec.ofBool ((BitVec.ofNat 32 a).sle (BitVec.ofNat 32 b)) = 1#1 ↔ _
  rw [BitVec.sle_eq_decide, toInt_small a ha, toInt_small b hb]
  by_cases h : a ≤ b
  · simp [h]
  · simp [h]

theorem ge_bit (a b : ℕ) (ha : a < 16384) (hb : b < 16384) :
    IntOp.cmpi .sge (BitVec.ofNat 32 a) (BitVec.ofNat 32 b) = 1#1 ↔ b ≤ a :=
  le_bit b a hb ha

theorem lt_bit (a b : ℕ) (ha : a < 16384) (hb : b < 16384) :
    IntOp.cmpi .slt (BitVec.ofNat 32 a) (BitVec.ofNat 32 b) = 1#1 ↔ a < b := by
  show BitVec.ofBool ((BitVec.ofNat 32 a).slt (BitVec.ofNat 32 b)) = 1#1 ↔ _
  rw [BitVec.slt_eq_decide, toInt_small a ha, toInt_small b hb]
  by_cases h : a < b
  · simp [h]
  · simp [h]

theorem and_bit (a b : BitVec 1) : IntOp.andi a b = 1#1 ↔ a = 1#1 ∧ b = 1#1 := by
  show a &&& b = 1#1 ↔ _
  revert a b; decide

/-- The window's bit: the distance of two positions is at most 128. -/
theorem band_bit (a b : ℕ) (ha : a < 16384) (hb : b < 16384) :
    IntOp.cmpi .sle (IntOp.absi (IntOp.subi (BitVec.ofNat 32 a) (BitVec.ofNat 32 b))) 128#32 = 1#1 ↔ a ≤ b + 128 ∧ b ≤ a + 128 := by
  by_cases h : b ≤ a
  · have e : IntOp.subi (BitVec.ofNat 32 a) (BitVec.ofNat 32 b) = BitVec.ofNat 32 (a - b) := by
      show BitVec.ofNat 32 a - BitVec.ofNat 32 b = _
      apply BitVec.eq_of_toNat_eq
      rw [BitVec.toNat_sub, BitVec.toNat_ofNat, BitVec.toNat_ofNat, BitVec.toNat_ofNat]; omega
    have e2 : IntOp.absi (BitVec.ofNat 32 (a - b)) = BitVec.ofNat 32 (a - b) := by
      show (if (BitVec.ofNat 32 (a - b)).msb then _ else _) = _
      rw [if_neg]
      rw [BitVec.msb_eq_toInt, toInt_small _ (by omega)]; simp
    rw [e, e2, show (128#32 : BitVec 32) = BitVec.ofNat 32 128 from rfl, le_bit _ _ (by omega) (by omega)]
    omega
  · have e2 : IntOp.absi (IntOp.subi (BitVec.ofNat 32 a) (BitVec.ofNat 32 b)) = BitVec.ofNat 32 (b - a) := by
      have hn : (BitVec.ofNat 32 a - BitVec.ofNat 32 b).toNat = 4294967296 - (b - a) := by
        rw [BitVec.toNat_sub, BitVec.toNat_ofNat, BitVec.toNat_ofNat]; omega
      show (if (BitVec.ofNat 32 a - BitVec.ofNat 32 b).msb then -(BitVec.ofNat 32 a - BitVec.ofNat 32 b) else _) = _
      rw [if_pos]
      · apply BitVec.eq_of_toNat_eq
        rw [BitVec.toNat_neg, hn, BitVec.toNat_ofNat]; omega
      · rw [BitVec.msb_eq_decide, hn]; simp; omega
    rw [e2, show (128#32 : BitVec 32) = BitVec.ofNat 32 128 from rfl, le_bit _ _ (by omega) (by omega)]
    omega

end Cert.Window

end
-- ==== Proof.Value.Heads.lean ====
/-
The kernel's arithmetic read at an index, over the extended reals: eight heads of one form, and the two rows of
the result as sums over the heads.
-/
module

public import proofs.«01_k».proof.Proof.RunIdeal.Values
public import proofs.«01_k».proof.Proof.Value.Words
public import Idealize.ShloMosaic.Lib.Pointwise

@[expose] public section

set_option maxRecDepth 16384

noncomputable section

namespace Cert.KernelIdeal.Halo

open Cert.KernelIdeal Cert.KernelIdeal.Gen
open Idealize.ShloMosaic Idealize.ShloMosaic.TcCoe
open Cert.Window

/-- Where the masked score stands, the ideal program has minus infinity. -/
theorem mask_bot : (Named.named κ "mask" 0xCE6E6B28#32 : Ideal .f32) = (⊥ : EReal) :=
  (IdealRules.named_const.statement κ "mask" .f32 0xCE6E6B28#32 ⊥ rfl).2.2

/-- The weight of a key: the exponential of its scaled score, or of minus infinity where the bit is clear. -/
def weight (b : BitVec 1) (s : EReal) : EReal :=
  Ideal.exp (Scalar.select b (s * Ideal.ofBits .f32 0x3E000000#32) (⊥ : EReal))

/-- The sum of the centre's and the halo's terms for one head, at one query row: `u` weighs a value. -/
def total (n : Near Ideal) (h : Far Ideal) (b : Fin 2) (e : Fin 4) (r : Fin 256)
    (uc : Fin 256 → EReal) (ul ur : Fin 128 → EReal) : EReal :=
  (∑ j : Fin 256, weight (v81 (ix2 r j)) (∑ d : Fin 64, v75 n (ix4 b r e d) * v92 n (ix4 b j e d)) * uc j)
  + if hr : r.val < 128 then
      ∑ j : Fin 128, weight (v87 n (ix2 ⟨r.val, hr⟩ j)) (∑ d : Fin 64, v75 n (ix4 b r e d) * v229 h (ix4 b j e d)) * ul j
    else
      ∑ j : Fin 128, weight (v91 n (ix2 ⟨r.val - 128, by omega⟩ j)) (∑ d : Fin 64, v75 n (ix4 b r e d) * v233 h (ix4 b j e d)) * ur j

/-- One head's result at one query row and one coordinate. -/
def quot (n : Near Ideal) (h : Far Ideal) (b : Fin 2) (e : Fin 4) (r : Fin 256) (d : Fin 64) : EReal :=
  Ideal.div (total n h b e r (fun j => v93 n (ix4 b j e d)) (fun j => v231 h (ix4 b j e d)) (fun j => v235 h (ix4 b j e d)))
    (total n h b e r (fun _ => 1) (fun _ => 1) (fun _ => 1))

/-- A row of the second half, counted from the half's start and back. -/
theorem rest_eq (r : Fin 256) (hr : ¬ r.val < 128) (q : 128 + (r.val - 128) < 256) : (⟨128 + (r.val - 128), q⟩ : Fin 256) = r :=
  Fin.ext (by show 128 + (r.val - 128) = r.val; omega)

/-- Batch 0, head 0. -/
theorem head00 (n : Near Ideal) (h : Far Ideal) (r : Fin 256) (d : Fin 64) : v273 n h (ix2 r d) = quot n h 0 0 r d := by
  by_cases hr : r.val < 128
  · pointwise [v273, v240, v105, v109, k0_pay46, k0_pay45, k0_pay15, k0_pay16, k0_pay14, v229, mask_bot, quot, total, weight, dif_pos hr]
  · pointwise [v273, v240, v105, v109, k0_pay46, k0_pay45, k0_pay15, k0_pay16, k0_pay14, v229, mask_bot, quot, total, weight, dif_neg hr, rest_eq r hr]

/-- Batch 0, head 1. -/
theorem head01 (n : Near Ideal) (h : Far Ideal) (r : Fin 256) (d : Fin 64) : v311 n h (ix2 r d) = quot n h 0 1 r d := by
  by_cases hr : r.val < 128
  · pointwise [v311, v121, v125, v122, v283, v287, k0_pay49, k0_pay18, k0_pay17, k0_pay20, k0_pay19, k0_pay47, k0_pay48, mask_bot, quot, total, weight, dif_pos hr]
  · pointwise [v311, v121, v125, v122, v283, v287, k0_pay49, k0_pay18, k0_pay17, k0_pay20, k0_pay19, k0_pay47, k0_pay48, mask_bot, quot, total, weight, dif_neg hr, rest_eq r hr]

/-- Batch 0, head 2. -/
theorem head02 (n : Near Ideal) (h : Far Ideal) (r : Fin 256) (d : Fin 64) : v349 n h (ix2 r d) = quot n h 0 2 r d := by
  by_cases hr : r.val < 128
  · pointwise [v349, v137, v141, v325, v327, v334, k0_pay54, k0_pay21, k0_pay22, k0_pay23, k0_pay50, k0_pay51, k0_pay52, k0_pay53, mask_bot, quot, total, weight, dif_pos hr]
  · pointwise [v349, v137, v141, v325, v327, v334, k0_pay54, k0_pay21, k0_pay22, k0_pay23, k0_pay50, k0_pay51, k0_pay52, k0_pay53, mask_bot, quot, total, weight, dif_neg hr, rest_eq r hr]

/-- Batch 0, head 3. -/
theorem head03 (n : Near Ideal) (h : Far Ideal) (r : Fin 256) (d : Fin 64) : Ideal.div (v157 n (ix2 r d) + if hr : r.val < 128 then v363 n h (ix2 ⟨r.val, hr⟩ d) else v379 n h (ix2 ⟨r.val - 128, by omega⟩ d))
      (v153 n (ix2 r 0) + if hr : r.val < 128 then v365 n h (ix2 ⟨r.val, hr⟩ 0) else v381 n h (ix2 ⟨r.val - 128, by omega⟩ 0)) = quot n h 0 3 r d := by
  by_cases hr : r.val < 128
  · pointwise [v153, v157, v363, v365, v379, v381, k0_pay24, k0_pay25, k0_pay26, k0_pay55, k0_pay56, k0_pay57, k0_pay58, k0_pay59, k0_pay60, mask_bot, quot, total, weight, dif_pos hr]
  · pointwise [v153, v157, v363, v365, v379, v381, k0_pay24, k0_pay25, k0_pay26, k0_pay55, k0_pay56, k0_pay57, k0_pay58, k0_pay59, k0_pay60, mask_bot, quot, total, weight, dif_neg hr, rest_eq r hr]

/-- Batch 1, head 0. -/
theorem head10 (n : Near Ideal) (h : Far Ideal) (r : Fin 256) (d : Fin 64) : v434 n h (ix2 r d) = quot n h 1 0 r d := by
  by_cases hr : r.val < 128
  · pointwise [v434, v167, v169, v173, v410, v412, v422, v423, v425, k0_pay68, k0_pay27, k0_pay28, k0_pay29, k0_pay62, k0_pay63, k0_pay64, k0_pay65, k0_pay66, k0_pay67, mask_bot, quot, total, weight, dif_pos hr]
  · pointwise [v434, v167, v169, v173, v410, v412, v422, v423, v425, k0_pay68, k0_pay27, k0_pay28, k0_pay29, k0_pay62, k0_pay63, k0_pay64, k0_pay65, k0_pay66, k0_pay67, mask_bot, quot, total, weight, dif_neg hr, rest_eq r hr]

/-- Batch 1, head 1. -/
theorem head11 (n : Near Ideal) (h : Far Ideal) (r : Fin 256) (d : Fin 64) : v472 n h (ix2 r d) = quot n h 1 1 r d := by
  by_cases hr : r.val < 128
  · pointwise [v472, v185, v189, k0_pay69, k0_pay30, k0_pay31, k0_pay32, mask_bot, quot, total, weight, dif_pos hr]
  · pointwise [v472, v185, v189, k0_pay69, k0_pay30, k0_pay31, k0_pay32, mask_bot, quot, total, weight, dif_neg hr, rest_eq r hr]

/-- Batch 1, head 2. -/
theorem head12 (n : Near Ideal) (h : Far Ideal) (r : Fin 256) (d : Fin 64) : v510 n h (ix2 r d) = quot n h 1 2 r d := by
  by_cases hr : r.val < 128
  · pointwise [v510, v201, v205, v474, k0_pay71, k0_pay70, k0_pay33, k0_pay34, k0_pay35, mask_bot, quot, total, weight, dif_pos hr]
  · pointwise [v510, v201, v205, v474, k0_pay71, k0_pay70, k0_pay33, k0_pay34, k0_pay35, mask_bot, quot, total, weight, dif_neg hr, rest_eq r hr]

/-- A head's result by the numbers of its coordinates. -/
theorem coords (n : Near Ideal) (h : Far Ideal) (b : Fin 2) (r : Fin 256) (e e' : Fin 4) (d d' : Fin 64)
    (he : e.val = e'.val) (hd : d.val = d'.val) : quot n h b e r d = quot n h b e' r d' := by
  rw [Fin.ext he, Fin.ext hd]

/-- The first row of the result: the heads' results against the output weights. -/
theorem row0_at (n : Near Ideal) (h : Far Ideal) (r : Fin 256) (o : Fin 512) : row0 n h (ix3 0 r o)
    = ∑ x : Fin 256, quot n h 0 ⟨x.val / 64, by omega⟩ r ⟨x.val % 64, by omega⟩ * n.wo (ix2 x o) := by
  pointwise [row0, k0_pay61]
  refine Finset.sum_congr rfl fun x _ => congrArg (fun z : EReal => z * n.wo (ix2 x o)) ?_
  split
  · rw [head00]; exact coords _ _ _ _ _ _ _ _ (by show 0 = x.val / 64; omega) (by show x.val = x.val % 64; omega)
  split
  · rw [head01]; exact coords _ _ _ _ _ _ _ _ (by show 1 = x.val / 64; omega) (by show x.val - 64 = x.val % 64; omega)
  split
  · rw [head02]; exact coords _ _ _ _ _ _ _ _ (by show 2 = x.val / 64; omega) (by show x.val - 64 - 64 = x.val % 64; omega)
  · rw [head03]; exact coords _ _ _ _ _ _ _ _ (by show 3 = x.val / 64; omega) (by show x.val - 64 - 64 - 64 = x.val % 64; omega)

/-- The second row of the result. -/
theorem row1_at (n : Near Ideal) (h : Far Ideal) (r : Fin 256) (o : Fin 512) : row1 n h (ix3 0 r o)
    = ∑ x : Fin 256, quot n h 1 ⟨x.val / 64, by omega⟩ r ⟨x.val % 64, by omega⟩ * n.wo (ix2 x o) := by
  pointwise [row1, k0_pay1, k0_pay74, v217, v221, v212, v213, v520, v521, k0_pay36, k0_pay37, k0_pay38, k0_pay39, k0_pay40, k0_pay72, k0_pay73, mask_bot]
  refine Finset.sum_congr rfl fun x _ => congrArg (fun z : EReal => z * n.wo (ix2 x o)) ?_
  split
  · rw [head10]; exact coords _ _ _ _ _ _ _ _ (by show 0 = x.val / 64; omega) (by show x.val = x.val % 64; omega)
  split
  · rw [head11]; exact coords _ _ _ _ _ _ _ _ (by show 1 = x.val / 64; omega) (by show x.val - 64 = x.val % 64; omega)
  split
  · rw [head12]; exact coords _ _ _ _ _ _ _ _ (by show 2 = x.val / 64; omega) (by show x.val - 64 - 64 = x.val % 64; omega)
  · refine Eq.trans ?_ (coords n h 1 r 3 _ ⟨x.val - 64 - 64 - 64, by omega⟩ _ (by show 3 = x.val / 64; omega) (by show x.val - 64 - 64 - 64 = x.val % 64; omega))
    by_cases hr : r.val < 128
    · pointwise [quot, total, weight, dif_pos hr]
    · pointwise [quot, total, weight, dif_neg hr, rest_eq r hr]

/-! ### The operands -/

/-- The query, the keys and the values of the device's own block, and of the halo. -/
theorem v75_at (n : Near Ideal) (b : Fin 2) (r : Fin 256) (e : Fin 4) (d : Fin 64) : v75 n (ix4 b r e d)
    = ∑ k : Fin 512, n.x (ix3 b r k) * n.wq (ix2 k ⟨e.val * 64 + d.val, by omega⟩) := by
  pointwise [v75, k0_pay10]
theorem v92_at (n : Near Ideal) (b : Fin 2) (r : Fin 256) (e : Fin 4) (d : Fin 64) : v92 n (ix4 b r e d) = n.k (ix4 b r e d) := by
  pointwise [v92, k0_pay8]
theorem v93_at (n : Near Ideal) (b : Fin 2) (r : Fin 256) (e : Fin 4) (d : Fin 64) : v93 n (ix4 b r e d) = n.v (ix4 b r e d) := by
  pointwise [v93, k0_pay9]
theorem v229_at (h : Far Ideal) (b : Fin 2) (r : Fin 128) (e : Fin 4) (d : Fin 64) : v229 h (ix4 b r e d) = h.q00 (ix6 0 0 b r e d) := by
  pointwise [v229, k0_pay41]
theorem v231_at (h : Far Ideal) (b : Fin 2) (r : Fin 128) (e : Fin 4) (d : Fin 64) : v231 h (ix4 b r e d) = h.q01 (ix6 0 0 b r e d) := by
  pointwise [v231, k0_pay42]
theorem v233_at (h : Far Ideal) (b : Fin 2) (r : Fin 128) (e : Fin 4) (d : Fin 64) : v233 h (ix4 b r e d) = h.q10 (ix6 0 0 b r e d) := by
  pointwise [v233, k0_pay43]
theorem v235_at (h : Far Ideal) (b : Fin 2) (r : Fin 128) (e : Fin 4) (d : Fin 64) : v235 h (ix4 b r e d) = h.q11 (ix6 0 0 b r e d) := by
  pointwise [v235, k0_pay44]

/-- What the halo quarters hold, read at an index. -/
theorem pay2_at (f : Vec Ideal S2x128x4x64 .f32) (b : Fin 2) (r : Fin 128) (e : Fin 4) (d : Fin 64) : k0_pay2 f (ix6 0 0 b r e d) = f (ix4 b r e d) := by
  pointwise [k0_pay2]
theorem pay3_at (f : Vec Ideal S2x128x4x64 .f32) (b : Fin 2) (r : Fin 128) (e : Fin 4) (d : Fin 64) : k0_pay3 f (ix6 0 0 b r e d) = f (ix4 b r e d) := by
  pointwise [k0_pay3]
theorem pay4_at (f : Vec Ideal S2x128x4x64 .f32) (b : Fin 2) (r : Fin 128) (e : Fin 4) (d : Fin 64) : k0_pay4 f (ix6 0 0 b r e d) = f (ix4 b r e d) := by
  pointwise [k0_pay4]
theorem pay5_at (f : Vec Ideal S2x128x4x64 .f32) (b : Fin 2) (r : Fin 128) (e : Fin 4) (d : Fin 64) : k0_pay5 f (ix6 0 0 b r e d) = f (ix4 b r e d) := by
  pointwise [k0_pay5]

/-! ### The masks -/

/-- The centre's mask, the mask of the half before and of the half after. -/
theorem v81_at (r j : Fin 256) : v81 (ix2 r j) = 1#1 ↔ r.val ≤ j.val + 128 ∧ j.val ≤ r.val + 128 := by
  pointwise [v81, k0_pay11]
  exact band_bit _ _ (by omega) (by omega)
theorem v87_at (n : Near Ideal) (c : Fin 32) (hn : n.w = BitVec.ofNat 32 c.val) (r j : Fin 128) :
    v87 n (ix2 r j) = 1#1 ↔ r.val ≤ j.val ∧ 0 < c.val := by
  pointwise [v87, k0_pay12]
  rw [and_bit, ge_bit _ _ (by omega) (by omega), hn]
  exact and_congr Iff.rfl (lt_bit 0 c.val (by omega) (by omega))
theorem v91_at (n : Near Ideal) (c : Fin 32) (hn : n.w = BitVec.ofNat 32 c.val) (r j : Fin 128) :
    v91 n (ix2 r j) = 1#1 ↔ j.val ≤ r.val ∧ c.val < 31 := by
  pointwise [v91, k0_pay13]
  rw [and_bit, le_bit _ _ (by omega) (by omega), hn]
  exact and_congr Iff.rfl (lt_bit c.val 31 (by omega) (by omega))

end Cert.KernelIdeal.Halo
end
-- ==== Proof.Value.Spec.lean ====
/-
Windowed attention over the extended reals, with no program in sight.

A query of the line of 8192 sees the keys at most 128 places away. Its result is the quotient of the weighted sum of
the values by the sum of the weights, a weight being the exponential of a real score. Two facts are proved here:
subtracting a real number from every score and dividing each weight by the sum first gives the same; and the sum over
the whole line is the sum over the query's own block and the half of a neighbouring block.
-/
module

public import Idealize.ShloMosaic.PureOps.Ideal

@[expose] public section

noncomputable section

namespace Cert.Window

open Idealize.ShloMosaic

/-- Key `j` is in the window of query `i`. -/
def seen (i j : Fin 8192) : Prop := i.val ≤ j.val + 128 ∧ j.val ≤ i.val + 128

instance (i j : Fin 8192) : Decidable (seen i j) := inferInstanceAs (Decidable (_ ∧ _))

/-- The weight query `i` gives key `j`, from the scores. -/
def wt (i : Fin 8192) (s : Fin 8192 → EReal) (j : Fin 8192) : EReal := if seen i j then Ideal.exp (s j) else 0

/-- The result of query `i`: the weighted sum of the values over the sum of the weights. -/
def attn (i : Fin 8192) (s v : Fin 8192 → EReal) : EReal := Ideal.div (∑ j, wt i s j * v j) (∑ j, wt i s j)

/-- Multiplication by a real number that is not negative goes through a sum. -/
theorem sum_mul_real {ι : Type} (S : Finset ι) (f : ι → EReal) (a : ℝ) (ha : 0 ≤ a) :
    ∑ j ∈ S, f j * (a : EReal) = (∑ j ∈ S, f j) * (a : EReal) := by
  classical
  induction S using Finset.induction_on with
  | empty => simp
  | insert x S hx ih =>
    rw [Finset.sum_insert hx, Finset.sum_insert hx, ih,
      EReal.right_distrib_of_nonneg_of_ne_top (EReal.coe_nonneg.mpr ha) (EReal.coe_ne_top a)]

/-- A sum of real numbers is a real number. -/
theorem coe_sum_real {ι : Type} (S : Finset ι) (f : ι → ℝ) : ∑ j ∈ S, ((f j : ℝ) : EReal) = ((∑ j ∈ S, f j : ℝ) : EReal) := by
  classical
  induction S using Finset.induction_on with
  | empty => simp
  | insert x S hx ih => rw [Finset.sum_insert hx, Finset.sum_insert hx, ih, EReal.coe_add]

/-- Division by a real number that is not zero. -/
theorem div_real (x : EReal) (a : ℝ) (ha : a ≠ 0) : Ideal.div x (a : EReal) = x * ((a⁻¹ : ℝ) : EReal) := by
  unfold Ideal.div
  rw [if_neg (by exact_mod_cast ha), EReal.coe_inv]

/-- The weights as real numbers. -/
def wr (i : Fin 8192) (s : Fin 8192 → ℝ) (j : Fin 8192) : ℝ := if seen i j then Real.exp (s j) else 0

theorem wt_real (i : Fin 8192) (s : Fin 8192 → ℝ) (j : Fin 8192) : wt i (fun j => (s j : EReal)) j = (wr i s j : EReal) := by
  unfold wt wr
  split
  · rfl
  · rfl

theorem wr_nonneg (i : Fin 8192) (s : Fin 8192 → ℝ) (j : Fin 8192) : 0 ≤ wr i s j := by
  unfold wr; split
  · exact (Real.exp_pos _).le
  · exact le_rfl

theorem wr_sum_pos (i : Fin 8192) (s : Fin 8192 → ℝ) : 0 < ∑ j, wr i s j :=
  Finset.sum_pos' (fun j _ => wr_nonneg i s j) ⟨i, Finset.mem_univ _, by
    unfold wr; rw [if_pos ⟨by omega, by omega⟩]; exact Real.exp_pos _⟩

/-- The masked score: minus infinity outside the window. -/
def masked (i : Fin 8192) (s : Fin 8192 → EReal) (j : Fin 8192) : EReal := if seen i j then s j else ⊥

/-- The greatest masked score is a real number. -/
theorem top_real (i : Fin 8192) (s : Fin 8192 → ℝ) :
    ∃ m : ℝ, Finset.univ.fold max (⊥ : EReal) (masked i fun j => (s j : EReal)) = (m : EReal) := by
  have hlt : Finset.univ.fold max (⊥ : EReal) (masked i fun j => (s j : EReal)) < ⊤ :=
    (Finset.fold_max_lt _).mpr ⟨bot_lt_top, fun j _ => by
      unfold masked; split
      · exact EReal.coe_lt_top _
      · exact bot_lt_top⟩
  have hgt : ⊥ < Finset.univ.fold max (⊥ : EReal) (masked i fun j => (s j : EReal)) :=
    (Finset.lt_fold_max _).mpr (Or.inr ⟨i, Finset.mem_univ _, by
      unfold masked; rw [if_pos ⟨by omega, by omega⟩]; exact EReal.bot_lt_coe _⟩)
  exact ⟨_, (EReal.coe_toReal hlt.ne hgt.ne').symm⟩

/-- The exponential of a masked score less a real number: the weight times a positive real number. -/
theorem exp_shift (i : Fin 8192) (s : Fin 8192 → ℝ) (m : ℝ) (j : Fin 8192) :
    Ideal.exp (masked i (fun j => (s j : EReal)) j - (m : EReal)) = ((wr i s j * Real.exp (-m) : ℝ) : EReal) := by
  unfold masked wr
  split
  · rw [← EReal.coe_sub]
    show ((Real.exp (s j - m) : ℝ) : EReal) = _
    rw [sub_eq_add_neg, Real.exp_add]
  · rw [EReal.bot_sub, zero_mul]
    rfl

/-- Subtracting the greatest score and normalizing each weight first changes nothing. -/
theorem softmax_eq (i : Fin 8192) (s : Fin 8192 → ℝ) (v : Fin 8192 → EReal) (m : ℝ) :
    ∑ j, v j * Ideal.div (Ideal.exp (masked i (fun j => (s j : EReal)) j - (m : EReal)))
        (∑ j, Ideal.exp (masked i (fun j => (s j : EReal)) j - (m : EReal)))
      = attn i (fun j => (s j : EReal)) v := by
  have hD := wr_sum_pos i s
  have hm := Real.exp_pos (-m)
  unfold attn
  simp only [exp_shift, wt_real, coe_sum_real]
  rw [← Finset.sum_mul, div_real _ _ hD.ne', ← sum_mul_real _ _ _ (inv_nonneg.mpr hD.le)]
  refine Finset.sum_congr rfl fun j _ => ?_
  rw [div_real _ _ (mul_pos hD hm).ne', ← EReal.coe_mul, mul_comm (v j), mul_right_comm _ (v j), ← EReal.coe_mul]
  refine congrArg (fun z : ℝ => (z : EReal) * v j) ?_
  field_simp

/-! ### The line in blocks -/

/-- Position `r` of block `c`. -/
def at' (c : Fin 32) (r : Fin 256) : Fin 8192 := ⟨c.val * 256 + r.val, by omega⟩

/-- The centre and one half of a neighbour, as positions of the line. -/
theorem sum_pair (i : Fin 8192) (f : Fin 8192 → EReal) (hf : ∀ j, ¬ seen i j → f j = 0) (a b : ℕ)
    (ha : a + 256 ≤ 8192) (hb : b + 128 ≤ 8192) (hab : a + 256 ≤ b ∨ b + 128 ≤ a)
    (hcov : ∀ j, seen i j → (a ≤ j.val ∧ j.val < a + 256) ∨ (b ≤ j.val ∧ j.val < b + 128)) :
    (∑ j : Fin 256, f ⟨a + j.val, by omega⟩) + (∑ j : Fin 128, f ⟨b + j.val, by omega⟩) = ∑ j, f j := by
  let e : Fin 256 ⊕ Fin 128 → Fin 8192 := Sum.elim (fun j => ⟨a + j.val, by omega⟩) (fun j => ⟨b + j.val, by omega⟩)
  have h := Finset.sum_of_injOn (s := Finset.univ) (t := Finset.univ) (f := fun x => f (e x)) (g := f) e
    (by
      rintro (x | x) _ (y | y) _ hxy
      all_goals have := congrArg Fin.val hxy
      · exact congrArg Sum.inl (Fin.ext (by change a + x.val = a + y.val at this; omega))
      · exfalso; change a + x.val = b + y.val at this; omega
      · exfalso; change b + x.val = a + y.val at this; omega
      · exact congrArg Sum.inr (Fin.ext (by change b + x.val = b + y.val at this; omega)))
    (fun _ _ => Finset.mem_coe.mpr (Finset.mem_univ _))
    (fun j _ hj => hf j fun hs => hj (by
      rcases hcov j hs with h | h
      · exact ⟨Sum.inl ⟨j.val - a, by omega⟩, Finset.mem_coe.mpr (Finset.mem_univ _), Fin.ext (by show a + (j.val - a) = j.val; omega)⟩
      · exact ⟨Sum.inr ⟨j.val - b, by omega⟩, Finset.mem_coe.mpr (Finset.mem_univ _), Fin.ext (by show b + (j.val - b) = j.val; omega)⟩))
    (fun _ _ => rfl)
  rw [← h, Fintype.sum_sum_type]
  rfl

/-- The centre alone. -/
theorem sum_one (i : Fin 8192) (f : Fin 8192 → EReal) (hf : ∀ j, ¬ seen i j → f j = 0) (a : ℕ) (ha : a + 256 ≤ 8192)
    (hcov : ∀ j, seen i j → a ≤ j.val ∧ j.val < a + 256) :
    (∑ j : Fin 256, f ⟨a + j.val, by omega⟩) = ∑ j, f j :=
  Finset.sum_of_injOn (s := Finset.univ) (t := Finset.univ) (f := fun j : Fin 256 => f ⟨a + j.val, by omega⟩) (g := f)
    (fun j => ⟨a + j.val, by omega⟩)
    (fun x _ y _ hxy => Fin.ext (by have := congrArg Fin.val hxy; change a + x.val = a + y.val at this; omega))
    (fun _ _ => Finset.mem_coe.mpr (Finset.mem_univ _))
    (fun j _ hj => hf j fun hs => hj
      ⟨⟨j.val - a, by have := hcov j hs; omega⟩, Finset.mem_coe.mpr (Finset.mem_univ _),
        Fin.ext (by have := hcov j hs; show a + (j.val - a) = j.val; omega)⟩)
    (fun _ _ => rfl)

/-- A query of the first half of its block: the block and the end of the block before, where there is one. -/
theorem sum_left (c : Fin 32) (r : Fin 256) (hr : r.val < 128) (f : Fin 8192 → EReal) (hf : ∀ j, ¬ seen (at' c r) j → f j = 0)
    (gc : Fin 256 → EReal) (gl : Fin 128 → EReal) (hc : ∀ j, gc j = f (at' c j))
    (hl : ∀ j : Fin 128, ∀ h : 0 < c.val, gl j = f ⟨c.val * 256 - 128 + j.val, by omega⟩)
    (h0 : ∀ j : Fin 128, ¬ 0 < c.val → gl j = 0) :
    (∑ j, gc j) + (∑ j, gl j) = ∑ j, f j := by
  rw [Finset.sum_congr rfl fun j _ => hc j]
  by_cases h : 0 < c.val
  · rw [Finset.sum_congr rfl fun j _ => hl j h]
    exact sum_pair _ f hf (c.val * 256) (c.val * 256 - 128) (by omega) (by omega) (by omega)
      fun j hj => by
        obtain ⟨h1, h2⟩ := hj
        change c.val * 256 + r.val ≤ j.val + 128 at h1; change j.val ≤ c.val * 256 + r.val + 128 at h2
        omega
  · rw [Finset.sum_congr rfl fun j _ => h0 j h, Finset.sum_const_zero, add_zero]
    exact sum_one _ f hf (c.val * 256) (by omega) fun j hj => by
        obtain ⟨h1, h2⟩ := hj
        change c.val * 256 + r.val ≤ j.val + 128 at h1; change j.val ≤ c.val * 256 + r.val + 128 at h2
        omega

/-- A query of the second half of its block: the block and the start of the block after, where there is one. -/
theorem sum_right (c : Fin 32) (r : Fin 256) (hr : ¬ r.val < 128) (f : Fin 8192 → EReal) (hf : ∀ j, ¬ seen (at' c r) j → f j = 0)
    (gc : Fin 256 → EReal) (gr : Fin 128 → EReal) (hc : ∀ j, gc j = f (at' c j))
    (hl : ∀ j : Fin 128, ∀ h : c.val < 31, gr j = f ⟨c.val * 256 + 256 + j.val, by omega⟩)
    (h0 : ∀ j : Fin 128, ¬ c.val < 31 → gr j = 0) :
    (∑ j, gc j) + (∑ j, gr j) = ∑ j, f j := by
  rw [Finset.sum_congr rfl fun j _ => hc j]
  by_cases h : c.val < 31
  · rw [Finset.sum_congr rfl fun j _ => hl j h]
    exact sum_pair _ f hf (c.val * 256) (c.val * 256 + 256) (by omega) (by omega) (by omega)
      fun j hj => by
        obtain ⟨h1, h2⟩ := hj
        change c.val * 256 + r.val ≤ j.val + 128 at h1; change j.val ≤ c.val * 256 + r.val + 128 at h2
        omega
  · rw [Finset.sum_congr rfl fun j _ => h0 j h, Finset.sum_const_zero, add_zero]
    exact sum_one _ f hf (c.val * 256) (by omega) fun j hj => by
        obtain ⟨h1, h2⟩ := hj
        have := j.isLt
        change c.val * 256 + r.val ≤ j.val + 128 at h1; change j.val ≤ c.val * 256 + r.val + 128 at h2
        omega

end Cert.Window

end
-- ==== Proof.Value.RefRead.lean ====
/-
The reference's values read at an index, over the extended reals.
-/
module

public import proofs.«01_k».proof.Proof.Gen.ReferenceIdeal.Read
public import proofs.«01_k».proof.Proof.Value.Spec
public import proofs.«01_k».proof.Proof.Value.Words
public import Idealize.ShloMosaic.Lib.Pointwise

@[expose] public section

set_option maxRecDepth 16384

noncomputable section

namespace Cert.ReferenceIdeal.At

open Cert.ReferenceIdeal Cert.ReferenceIdeal.Gen Cert.ReferenceIdeal.Read
open Idealize.ShloMosaic
open Cert.Window

/-- The scale as the program writes it. -/
abbrev scale : EReal := Ideal.ofBits .f32 0x3E000000#32

/-- A query's coordinate: its row against the query weights. -/
def query (x0 : FVec Ideal S2x8192x512 .f32) (x1 : FVec Ideal S512x256 .f32) (b : Fin 2) (i : Fin 8192) (e : Fin 4) (d : Fin 64) : EReal :=
  ∑ k : Fin 512, x0 (ix3 b i k) * x1 (ix2 k ⟨e.val * 64 + d.val, by omega⟩)

/-- The scaled score of a query and a key. -/
def score (x0 : FVec Ideal S2x8192x512 .f32) (x1 : FVec Ideal S512x256 .f32) (x2 : FVec Ideal S2x8192x4x64 .f32)
    (b : Fin 2) (e : Fin 4) (i j : Fin 8192) : EReal :=
  (∑ d : Fin 64, query x0 x1 b i e d * x2 (ix4 b j e d)) * scale

variable (x0 : FVec Ideal S2x8192x512 .f32) (x1 : FVec Ideal S512x256 .f32) (x2 x3 : FVec Ideal S2x8192x4x64 .f32) (x4 : FVec Ideal S256x512 .f32)

/-- The projected query. -/
theorem v1_at (b : Fin 2) (i : Fin 8192) (e : Fin 4) (d : Fin 64) : val_main_v1 (F := Ideal) x0 x1 (ix4 b i e d) = query x0 x1 b i e d := by
  pointwise [val_main_v1, val_main_v0, query]

/-- The scaled score. -/
theorem v14_at (b : Fin 2) (i j : Fin 8192) (e : Fin 4) : val_main_v14 (F := Ideal) x0 x1 x2 (ix4 b e i j) = score x0 x1 x2 b e i j := by
  pointwise [val_main_v14, val_main_v12, val_main_v13, val_main_cst, score, v1_at]

/-- The window's bit. -/
theorem v11_at (i j : Fin 8192) : val_main_v11 (F := Ideal) (ix2 i j) = 1#1 ↔ seen i j := by
  pointwise [val_main_v11, val_main_v10, val_main_c, val_main_v9, val_main_v8, val_main_v7, val_main_v6, val_main_v5, val_main_v4, val_main_v3, val_main_v2]
  exact band_bit _ _ (by omega) (by omega)

/-- The pattern of minus infinity. -/
theorem neg_inf : Ideal.ofBits .f32 0xFF800000#32 = (⊥ : EReal) := by
  simp [Ideal.ofBits, Ideal.ieee]

/-- The pattern of plus infinity. -/
theorem pos_inf : Ideal.ofBits .f32 0x7F800000#32 = (⊤ : EReal) := by
  simp [Ideal.ofBits, Ideal.ieee]

/-- The scale is the real number one eighth. -/
theorem scale_real : scale = ((1 / 8 : ℝ) : EReal) := by
  simp [scale, Ideal.ofBits, Ideal.ieee, -EReal.coe_mul]
  norm_num

/-- A choice by the window's bit is the masked score. -/
theorem sel_masked (c : BitVec 1) (i j : Fin 8192) (h : c = 1#1 ↔ seen i j) (f : Fin 8192 → EReal) (y : EReal) (hy : y = ⊥) :
    Scalar.select c (f j) y = masked i f j := by
  unfold Scalar.select masked
  by_cases hs : seen i j
  · rw [if_pos hs]; exact if_pos (h.mpr hs)
  · rw [if_neg hs, ← hy]; exact if_neg (fun hc => hs (h.mp hc))

/-- A choice by a set bit. -/
theorem sel_one {α : Type} (c : BitVec 1) (h : c = 1#1) (x y : α) : Scalar.select c x y = x := if_pos h

/-- Two indices of rank four with equal coordinates. -/
theorem idx4 {n₀ n₁ n₂ n₃ : ℕ} (j k : Shape.Idx ⟨4, ![n₀, n₁, n₂, n₃]⟩) (h0 : (j 0).val = (k 0).val) (h1 : (j 1).val = (k 1).val)
    (h2 : (j 2).val = (k 2).val) (h3 : (j 3).val = (k 3).val) : j = k :=
  funext fun a => Fin.ext (match a with | ⟨0, _⟩ => h0 | ⟨1, _⟩ => h1 | ⟨2, _⟩ => h2 | ⟨3, _⟩ => h3)

/-- The masked score. -/
theorem v16_at (b : Fin 2) (i j : Fin 8192) (e : Fin 4) : val_main_v16 (F := Ideal) x0 x1 x2 (ix4 b e i j) = masked i (score x0 x1 x2 b e i) j := by
  pointwise [val_main_v16, val_main_call0_v1, val_main_call0_v2, val_main_call0_v0, val_main_cst_0, val_main_v15, v14_at]
  exact sel_masked _ i j (v11_at i j) (score x0 x1 x2 b e i) _ neg_inf

/-- The greatest masked score of a query. -/
def best (b : Fin 2) (e : Fin 4) (i : Fin 8192) : EReal := Finset.univ.fold max (⊥ : EReal) (masked i (score x0 x1 x2 b e i))

/-- The greatest masked score. -/
theorem v17_at (b : Fin 2) (i : Fin 8192) (e : Fin 4) : val_main_v17 (F := Ideal) x0 x1 x2 (ix3 b e i) = best x0 x1 x2 b e i := by
  pointwise [val_main_v17, val_main_cst_1, v16_at]
  rw [neg_inf]
  rfl

/-- Every query sees a key: itself. -/
theorem v22_at (i : Fin 8192) : val_main_v22 (F := Ideal) (ix1 i) = 1#1 := by
  pointwise [val_main_v22, val_main_c_2]
  generalize hf : (fun x => val_main_v11 (F := Ideal) (ix2 i x)) = f
  have hi : f i = 1#1 := by rw [← hf]; exact (v11_at i i).mpr ⟨by omega, by omega⟩
  rw [← Finset.insert_erase (Finset.mem_univ i), Finset.fold_insert (Finset.notMem_erase _ _), hi]
  generalize Finset.fold IntOp.ori (0#1) f _ = z
  revert z; decide

/-- The exponential of a query's masked score less the greatest. -/
def up (b : Fin 2) (e : Fin 4) (i j : Fin 8192) : EReal := Ideal.exp (masked i (score x0 x1 x2 b e i) j - best x0 x1 x2 b e i)

/-- The exponential before normalizing. -/
theorem v21_at (b : Fin 2) (i j : Fin 8192) (e : Fin 4) : val_main_v21 (F := Ideal) x0 x1 x2 (ix4 b e i j) = up x0 x1 x2 b e i j := by
  pointwise [val_main_v21, val_main_v20, val_main_v19, val_main_v18, v16_at, v17_at, up]

/-- The sum of a query's exponentials. -/
def sumUp (b : Fin 2) (e : Fin 4) (i : Fin 8192) : EReal := ∑ j, up x0 x1 x2 b e i j

/-- The sum of the exponentials. -/
theorem v24_at (b : Fin 2) (i : Fin 8192) (e : Fin 4) : val_main_v24 (F := Ideal) x0 x1 x2 (ix3 b e i) = sumUp x0 x1 x2 b e i := by
  pointwise [val_main_v24, val_main_cst_3, v21_at, sumUp]

/-- The divisor: the sum, since every query sees a key. -/
theorem v26_at (b : Fin 2) (i : Fin 8192) (e : Fin 4) : val_main_v26 (F := Ideal) x0 x1 x2 (ix4 b e i 0) = sumUp x0 x1 x2 b e i := by
  pointwise [val_main_v26, val_main_call1_v1, val_main_v25, val_main_v23, v24_at]
  exact sel_one _ (v22_at i) _ _

/-- The normalized weight. -/
theorem v28_at (b : Fin 2) (i j : Fin 8192) (e : Fin 4) : val_main_v28 (F := Ideal) x0 x1 x2 (ix4 b e i j)
    = Ideal.div (up x0 x1 x2 b e i j) (sumUp x0 x1 x2 b e i) := by
  rw [val_main_v28_apply, v21_at, val_main_v27_apply, show idx_main_v27 (ix4 b e i j) = ix4 b e i 0 from idx4 _ _ rfl rfl rfl rfl, v26_at]
  generalize up x0 x1 x2 b e i j = x
  generalize sumUp x0 x1 x2 b e i = y
  rfl

/-- The normalized weight, kept since every query sees a key. -/
theorem v30_at (b : Fin 2) (i j : Fin 8192) (e : Fin 4) : val_main_v30 (F := Ideal) x0 x1 x2 (ix4 b e i j)
    = Ideal.div (up x0 x1 x2 b e i j) (sumUp x0 x1 x2 b e i) := by
  pointwise [val_main_v30, val_main_call2_v1, val_main_v29, v28_at]
  exact sel_one _ (v22_at i) _ _

/-- The result: the weighted values against the output weights. -/
theorem v34_at (b : Fin 2) (i : Fin 8192) (o : Fin 512) : val_main_v34 (F := Ideal) x0 x1 x2 x3 x4 (ix3 b i o)
    = ∑ x : Fin 256, (∑ j, x3 (ix4 b j ⟨x.val / 64, by omega⟩ ⟨x.val % 64, by omega⟩) * val_main_v30 (F := Ideal) x0 x1 x2 (ix4 b ⟨x.val / 64, by omega⟩ i j)) * x4 (ix2 x o) := by
  pointwise [val_main_v34, val_main_v33, val_main_v32, val_main_v31]

end Cert.ReferenceIdeal.At
end
-- ==== Proof.Value.RefValue.lean ====
/-
The reference's result in closed form: where the scores are real, each query's result is windowed attention.
-/
module

public import proofs.«01_k».proof.Proof.Value.RefRead

@[expose] public section

noncomputable section

namespace Cert.ReferenceIdeal.At

open Cert.ReferenceIdeal Cert.ReferenceIdeal.Gen Cert.ReferenceIdeal.Read
open Idealize.ShloMosaic
open Cert.Window

/-- An extended real that is a real number. -/
def Real1 (x : EReal) : Prop := ∃ r : ℝ, x = (r : EReal)

/-- A product of real numbers is one. -/
theorem real_mul {x y : EReal} (hx : Real1 x) (hy : Real1 y) : Real1 (x * y) := by
  obtain ⟨a, rfl⟩ := hx
  obtain ⟨b, rfl⟩ := hy
  exact ⟨a * b, (EReal.coe_mul a b).symm⟩

/-- So is a sum. -/
theorem real_sum {ι : Type} [Fintype ι] (f : ι → EReal) (h : ∀ i, Real1 (f i)) : Real1 (∑ i, f i) := by
  choose g hg using h
  exact ⟨∑ i, g i, by rw [← coe_sum_real]; exact Finset.sum_congr rfl fun i _ => hg i⟩

variable (x0 : FVec Ideal S2x8192x512 .f32) (x1 : FVec Ideal S512x256 .f32) (x2 x3 : FVec Ideal S2x8192x4x64 .f32) (x4 : FVec Ideal S256x512 .f32)

/-- Real inputs give real scores. -/
theorem score_real (h0 : ∀ i, Real1 (x0 i)) (h1 : ∀ i, Real1 (x1 i)) (h2 : ∀ i, Real1 (x2 i))
    (b : Fin 2) (e : Fin 4) (i j : Fin 8192) : Real1 (score x0 x1 x2 b e i j) :=
  real_mul (real_sum _ fun _ => real_mul (real_sum _ fun _ => real_mul (h0 _) (h1 _)) (h2 _)) ⟨_, scale_real⟩

/-- What one head of a query gives: windowed attention at one coordinate of the values. -/
def head (b : Fin 2) (e : Fin 4) (i : Fin 8192) (d : Fin 64) : EReal :=
  attn i (score x0 x1 x2 b e i) fun j => x3 (ix4 b j e d)

/-- The normalized weights of a query against the values. -/
theorem mix_at (h0 : ∀ i, Real1 (x0 i)) (h1 : ∀ i, Real1 (x1 i)) (h2 : ∀ i, Real1 (x2 i))
    (b : Fin 2) (e : Fin 4) (i : Fin 8192) (d : Fin 64) :
    ∑ j, x3 (ix4 b j e d) * Ideal.div (up x0 x1 x2 b e i j) (sumUp x0 x1 x2 b e i) = head x0 x1 x2 x3 b e i d := by
  choose s hs using score_real x0 x1 x2 h0 h1 h2 b e i
  have hf : score x0 x1 x2 b e i = fun j => (s j : EReal) := funext hs
  obtain ⟨m, hm⟩ := top_real i s
  have hb : best x0 x1 x2 b e i = (m : EReal) := by unfold best; rw [hf]; exact hm
  unfold head sumUp up
  rw [hb, hf]
  exact softmax_eq i s (fun j => x3 (ix4 b j e d)) m

/-- The reference's result at an index. -/
theorem result_at (h0 : ∀ i, Real1 (x0 i)) (h1 : ∀ i, Real1 (x1 i)) (h2 : ∀ i, Real1 (x2 i))
    (b : Fin 2) (i : Fin 8192) (o : Fin 512) : val_main_v34 (F := Ideal) x0 x1 x2 x3 x4 (ix3 b i o)
      = ∑ x : Fin 256, head x0 x1 x2 x3 b ⟨x.val / 64, by omega⟩ i ⟨x.val % 64, by omega⟩ * x4 (ix2 x o) := by
  rw [v34_at]
  refine Finset.sum_congr rfl fun x _ => congrArg (fun z : EReal => z * x4 (ix2 x o)) ?_
  rw [← mix_at x0 x1 x2 x3 h0 h1 h2]
  exact Finset.sum_congr rfl fun j _ => congrArg (fun z : EReal => x3 (ix4 b j ⟨x.val / 64, by omega⟩ ⟨x.val % 64, by omega⟩) * z) (v30_at x0 x1 x2 b i j _)

end Cert.ReferenceIdeal.At
end
-- ==== Proof.Value.Kernel.lean ====
/-
The kernel's result in closed form: on every device, the rows of windowed attention over the whole line.
-/
module

public import proofs.«01_k».proof.Proof.RunIdeal.Body
public import proofs.«01_k».proof.Proof.Value.Heads
public import proofs.«01_k».proof.Proof.Value.RefValue

@[expose] public section

set_option maxRecDepth 16384

noncomputable section

namespace Cert.KernelIdeal.Halo

open Cert.KernelIdeal Cert.KernelIdeal.Gen
open Idealize.ShloMosaic Idealize.ShloMosaic.TcCoe
open Cert.Window
open Cert.ReferenceIdeal.At (query score head scale)

/-- A device's place, as a number. -/
theorem place_eq (c : Dev nD) : place c = BitVec.ofNat 32 c.val := by revert c; decide

/-- A row of the first half of a block, read. -/
theorem lo_at (f : Vec Ideal S2x256x4x64 .f32) (b : Fin 2) (j : Fin 128) (e : Fin 4) (d : Fin 64) :
    lo f (ix4 b j e d) = f (ix4 b ⟨j.val, by omega⟩ e d) := by
  refine congrArg f (Cert.ReferenceIdeal.At.idx4 _ _ ?_ ?_ ?_ ?_)
  · exact (Nat.zero_add _).trans (Nat.one_mul _)
  · exact (Nat.zero_add _).trans (Nat.one_mul _)
  · exact (Nat.zero_add _).trans (Nat.one_mul _)
  · exact (Nat.zero_add _).trans (Nat.one_mul _)

/-- A row of the second half. -/
theorem hi_at (f : Vec Ideal S2x256x4x64 .f32) (b : Fin 2) (j : Fin 128) (e : Fin 4) (d : Fin 64) :
    hi f (ix4 b j e d) = f (ix4 b ⟨128 + j.val, by omega⟩ e d) := by
  refine congrArg f (Cert.ReferenceIdeal.At.idx4 _ _ ?_ ?_ ?_ ?_)
  · exact (Nat.zero_add _).trans (Nat.one_mul _)
  · exact congrArg (128 + ·) (Nat.one_mul _)
  · exact (Nat.zero_add _).trans (Nat.one_mul _)
  · exact (Nat.zero_add _).trans (Nat.one_mul _)

/-- A weight is the exponential of the scaled score where the bit is set, and nothing where it is clear. -/
theorem weight_eq (c : BitVec 1) (p : Prop) [Decidable p] (h : c = 1#1 ↔ p) (s : EReal) :
    weight c s = if p then Ideal.exp (s * scale) else 0 := by
  unfold weight
  by_cases hp : p
  · rw [if_pos hp]; exact congrArg Ideal.exp (if_pos (h.mpr hp))
  · rw [if_neg hp]; exact (congrArg Ideal.exp (if_neg fun hc => hp (h.mp hc))).trans rfl

variable (m : (ℓ : Loc nD τ sig) → Buf (Elt Ideal) ℓ)
variable (X0 : FVec Ideal Cert.ReferenceIdeal.S2x8192x512 .f32) (X1 : FVec Ideal S512x256 .f32)
variable (X2 X3 : FVec Ideal Cert.ReferenceIdeal.S2x8192x4x64 .f32) (X4 : FVec Ideal S256x512 .f32)

/-- The devices hold the whole arrays: blocks of the input, the keys and the values, and all of the weights. -/
structure Holds : Prop where
  x : ∀ (c : Dev nD) b r k, xAt m c (ix3 b r k) = X0 (ix3 b (at' c r) k)
  wq : ∀ (c : Dev nD) k l, wqAt m c (ix2 k l) = X1 (ix2 k l)
  k : ∀ (c : Dev nD) b r e d, kAt m c (ix4 b r e d) = X2 (ix4 b (at' c r) e d)
  v : ∀ (c : Dev nD) b r e d, vAt m c (ix4 b r e d) = X3 (ix4 b (at' c r) e d)
  wo : ∀ (c : Dev nD) k l, woAt m c (ix2 k l) = X4 (ix2 k l)

variable {m X0 X1 X2 X3 X4}
variable (H : Holds m X0 X1 X2 X3 X4) (c : Fin 32) (h : Far Ideal) (hh : FarOk m c h)
include H

/-- A device's query. -/
theorem query_at (b : Fin 2) (r : Fin 256) (e : Fin 4) (d : Fin 64) :
    v75 (near m c) (ix4 b r e d) = query X0 X1 b (at' c r) e d := by
  rw [v75_at]
  unfold query
  refine Finset.sum_congr rfl fun k _ => ?_
  exact congrArg₂ (fun x y : EReal => x * y) (H.x c b r k) (H.wq c k _)

include hh

/-- The keys and the values that came from the device before. -/
theorem before_k (hc : 0 < c.val) (b : Fin 2) (j : Fin 128) (e : Fin 4) (d : Fin 64) :
    v229 h (ix4 b j e d) = X2 (ix4 b ⟨c.val * 256 - 128 + j.val, by omega⟩ e d) := by
  have h1 := hh.1
  rw [if_pos hc] at h1
  rw [v229_at, h1.1, pay4_at, hi_at, H.k]
  refine congrArg X2 (congrArg (fun z => ix4 b z e d) (Fin.ext ?_))
  show (prv c).val * 256 + (128 + j.val) = c.val * 256 - 128 + j.val
  rw [prv_val hc]; omega
theorem before_v (hc : 0 < c.val) (b : Fin 2) (j : Fin 128) (e : Fin 4) (d : Fin 64) :
    v231 h (ix4 b j e d) = X3 (ix4 b ⟨c.val * 256 - 128 + j.val, by omega⟩ e d) := by
  have h1 := hh.1
  rw [if_pos hc] at h1
  rw [v231_at, h1.2, pay5_at, hi_at, H.v]
  refine congrArg X3 (congrArg (fun z => ix4 b z e d) (Fin.ext ?_))
  show (prv c).val * 256 + (128 + j.val) = c.val * 256 - 128 + j.val
  rw [prv_val hc]; omega

/-- And those from the device after. -/
theorem after_k (hc : c.val < 31) (b : Fin 2) (j : Fin 128) (e : Fin 4) (d : Fin 64) :
    v233 h (ix4 b j e d) = X2 (ix4 b ⟨c.val * 256 + 256 + j.val, by omega⟩ e d) := by
  have h1 := hh.2
  rw [if_pos hc] at h1
  rw [v233_at, h1.1, pay2_at, lo_at, H.k]
  refine congrArg X2 (congrArg (fun z => ix4 b z e d) (Fin.ext ?_))
  show (nxt c).val * 256 + j.val = c.val * 256 + 256 + j.val
  rw [nxt_val hc]; omega
theorem after_v (hc : c.val < 31) (b : Fin 2) (j : Fin 128) (e : Fin 4) (d : Fin 64) :
    v235 h (ix4 b j e d) = X3 (ix4 b ⟨c.val * 256 + 256 + j.val, by omega⟩ e d) := by
  have h1 := hh.2
  rw [if_pos hc] at h1
  rw [v235_at, h1.2, pay3_at, lo_at, H.v]
  refine congrArg X3 (congrArg (fun z => ix4 b z e d) (Fin.ext ?_))
  show (nxt c).val * 256 + j.val = c.val * 256 + 256 + j.val
  rw [nxt_val hc]; omega

/-- One weight: where the bit says what the window says of key `i`, and the key is `i`'s. -/
theorem one_weight (b : Fin 2) (e : Fin 4) (r : Fin 256) (i : Fin 8192) (w : BitVec 1) (hw : w = 1#1 ↔ seen (at' c r) i)
    (k : Fin 64 → EReal) (hk : ∀ d, k d = X2 (ix4 b i e d)) :
    weight w (∑ d : Fin 64, v75 (near m c) (ix4 b r e d) * k d) = wt (at' c r) (score X0 X1 X2 b e (at' c r)) i := by
  rw [weight_eq w _ hw]
  unfold wt score
  rw [Finset.sum_congr rfl fun d _ => by rw [query_at H c, hk d]]

/-- The sums of a head, over the whole line. -/
theorem total_eq (b : Fin 2) (e : Fin 4) (r : Fin 256) (v : Fin 8192 → EReal) (uc : Fin 256 → EReal) (ul ur : Fin 128 → EReal)
    (huc : ∀ j, uc j = v (at' c j)) (hul : ∀ j : Fin 128, ∀ h : 0 < c.val, ul j = v ⟨c.val * 256 - 128 + j.val, by omega⟩)
    (hur : ∀ j : Fin 128, ∀ h : c.val < 31, ur j = v ⟨c.val * 256 + 256 + j.val, by omega⟩) :
    total (near m c) h b e r uc ul ur = ∑ j, wt (at' c r) (score X0 X1 X2 b e (at' c r)) j * v j := by
  have hf : ∀ j, ¬ seen (at' c r) j → wt (at' c r) (score X0 X1 X2 b e (at' c r)) j * v j = 0 := fun j hj => by
    unfold wt; rw [if_neg hj, zero_mul]
  have hcen : ∀ j : Fin 256, weight (v81 (ix2 r j)) (∑ d : Fin 64, v75 (near m c) (ix4 b r e d) * v92 (near m c) (ix4 b j e d)) * uc j
      = wt (at' c r) (score X0 X1 X2 b e (at' c r)) (at' c j) * v (at' c j) := fun j => by
    rw [huc j, one_weight H c h hh b e r (at' c j) _ ((v81_at r j).trans (by
      show _ ↔ c.val * 256 + r.val ≤ c.val * 256 + j.val + 128 ∧ c.val * 256 + j.val ≤ c.val * 256 + r.val + 128
      omega)) _ fun d => (v92_at (near m c) b j e d).trans (H.k c b j e d)]
  unfold total
  by_cases hr : r.val < 128
  · rw [dif_pos hr]
    refine sum_left c r hr (fun j => wt (at' c r) (score X0 X1 X2 b e (at' c r)) j * v j) hf _ _ hcen (fun j hc => ?_) fun j hc => ?_
    · rw [hul j hc, one_weight H c h hh b e r ⟨c.val * 256 - 128 + j.val, by omega⟩ _ ((v87_at (near m c) c (place_eq c) _ j).trans (by
        show r.val ≤ j.val ∧ 0 < c.val ↔ c.val * 256 + r.val ≤ c.val * 256 - 128 + j.val + 128 ∧ c.val * 256 - 128 + j.val ≤ c.val * 256 + r.val + 128
        omega)) _ fun d => before_k H c h hh hc b j e d]
    · rw [weight_eq _ False ((v87_at (near m c) c (place_eq c) _ j).trans (by simp [hc])), if_neg id, zero_mul]
  · rw [dif_neg hr]
    refine sum_right c r hr (fun j => wt (at' c r) (score X0 X1 X2 b e (at' c r)) j * v j) hf _ _ hcen (fun j hc => ?_) fun j hc => ?_
    · rw [hur j hc, one_weight H c h hh b e r ⟨c.val * 256 + 256 + j.val, by omega⟩ _ ((v91_at (near m c) c (place_eq c) _ j).trans (by
        show j.val ≤ r.val - 128 ∧ c.val < 31 ↔ c.val * 256 + r.val ≤ c.val * 256 + 256 + j.val + 128 ∧ c.val * 256 + 256 + j.val ≤ c.val * 256 + r.val + 128
        omega)) _ fun d => after_k H c h hh hc b j e d]
    · rw [weight_eq _ False ((v91_at (near m c) c (place_eq c) _ j).trans (by simp [hc])), if_neg id, zero_mul]

/-- A head's result is windowed attention over the whole line. -/
theorem quot_eq (b : Fin 2) (e : Fin 4) (r : Fin 256) (d : Fin 64) :
    quot (near m c) h b e r d = head X0 X1 X2 X3 b e (at' c r) d := by
  unfold quot head attn
  rw [total_eq H c h hh b e r (fun j => X3 (ix4 b j e d)) _ _ _ (fun j => (v93_at (near m c) b j e d).trans (H.v c b j e d))
      (fun j hc => before_v H c h hh hc b j e d) (fun j hc => after_v H c h hh hc b j e d),
    total_eq H c h hh b e r (fun _ => 1) _ _ _ (fun _ => rfl) (fun _ _ => rfl) (fun _ _ => rfl)]
  simp only [mul_one]

end Cert.KernelIdeal.Halo
end
-- ==== Proof.Value.Rows.lean ====
/-
Every index by its coordinates, and the kernel's result block read row by row.
-/
module

public import proofs.«01_k».proof.Proof.Value.Kernel

@[expose] public section

set_option maxRecDepth 16384

noncomputable section

namespace Cert.KernelIdeal.Halo

open Cert.KernelIdeal Cert.KernelIdeal.Gen
open Idealize.ShloMosaic Idealize.ShloMosaic.TcCoe
open Cert.Window
open Cert.ReferenceIdeal.At (head)

/-- Two indices of rank three with equal coordinates. -/
theorem same3 {n₀ n₁ n₂ : ℕ} (j k : Shape.Idx ⟨3, ![n₀, n₁, n₂]⟩) (h0 : (j 0).val = (k 0).val) (h1 : (j 1).val = (k 1).val)
    (h2 : (j 2).val = (k 2).val) : j = k :=
  funext fun a => Fin.ext (match a with | ⟨0, _⟩ => h0 | ⟨1, _⟩ => h1 | ⟨2, _⟩ => h2)

/-- An index is made of its coordinates: rank two, -/
theorem split2 {n₀ n₁ : ℕ} (j : Shape.Idx ⟨2, ![n₀, n₁]⟩) : ∃ (a : Fin n₀) (b : Fin n₁), j = ix2 a b :=
  ⟨j 0, j 1, funext fun a => Fin.ext (match a with | ⟨0, _⟩ => rfl | ⟨1, _⟩ => rfl)⟩
/-- rank three, -/
theorem split3 {n₀ n₁ n₂ : ℕ} (j : Shape.Idx ⟨3, ![n₀, n₁, n₂]⟩) : ∃ (a : Fin n₀) (b : Fin n₁) (c : Fin n₂), j = ix3 a b c :=
  ⟨j 0, j 1, j 2, same3 _ _ rfl rfl rfl⟩
/-- rank four. -/
theorem split4 {n₀ n₁ n₂ n₃ : ℕ} (j : Shape.Idx ⟨4, ![n₀, n₁, n₂, n₃]⟩) :
    ∃ (a : Fin n₀) (b : Fin n₁) (c : Fin n₂) (d : Fin n₃), j = ix4 a b c d :=
  ⟨j 0, j 1, j 2, j 3, Cert.ReferenceIdeal.At.idx4 _ _ rfl rfl rfl rfl⟩

/-- Where a row's rectangle puts its elements. -/
theorem emb0 (r : Fin 256) (o : Fin 512) : (oM.access rowR0).emb (ix3 0 r o) = (ix3 0 r o : S2x256x512.Idx) :=
  same3 _ _ rfl ((Nat.zero_add _).trans (Nat.one_mul _)) ((Nat.zero_add _).trans (Nat.one_mul _))
theorem emb1 (r : Fin 256) (o : Fin 512) : (oM.access rowR1).emb (ix3 0 r o) = (ix3 1 r o : S2x256x512.Idx) :=
  same3 _ _ rfl ((Nat.zero_add _).trans (Nat.one_mul _)) ((Nat.zero_add _).trans (Nat.one_mul _))

/-- The second row's rectangle misses the first row. -/
theorem miss (r : Fin 256) (o : Fin 512) : (ix3 0 r o : S2x256x512.Idx) ∉ (oM.access rowR1).setOn Finset.univ := fun hm => by
  obtain ⟨y, -, hy⟩ := Finset.mem_map.mp hm
  have h0 : 1 + 1 * (y 0).val = 0 := congrArg (fun i : S2x256x512.Idx => (i 0).val) hy
  omega

variable (f : Vec Ideal S2x256x512 .f32) (r0 r1 : Vec Ideal S1x256x512 .f32)

/-- The block read on its first row, -/
theorem rows_0 (r : Fin 256) (o : Fin 512) : rows f r0 r1 (ix3 0 r o) = r0 (ix3 0 r o) := by
  have h1 : rows f r0 r1 (ix3 0 r o) = oneRow f r0 (ix3 0 r o) := View.write_of_not_mem _ _ _ (miss r o)
  have h2 := View.write_emb_of_mem (v := oM.access rowR0) (Val := Elt Ideal) f r0 (M := Finset.univ) (x := ix3 0 r o) (Finset.mem_univ _)
  rw [emb0] at h2
  exact h1.trans h2
/-- and on its second. -/
theorem rows_1 (r : Fin 256) (o : Fin 512) : rows f r0 r1 (ix3 1 r o) = r1 (ix3 0 r o) := by
  have h2 := View.write_emb_of_mem (v := oM.access rowR1) (Val := Elt Ideal) (oneRow f r0) r1 (M := Finset.univ) (x := ix3 0 r o) (Finset.mem_univ _)
  rw [emb1] at h2
  exact h2

variable {m : (ℓ : Loc nD τ sig) → Buf (Elt Ideal) ℓ}
variable {X0 : FVec Ideal Cert.ReferenceIdeal.S2x8192x512 .f32} {X1 : FVec Ideal S512x256 .f32}
variable {X2 X3 : FVec Ideal Cert.ReferenceIdeal.S2x8192x4x64 .f32} {X4 : FVec Ideal S256x512 .f32}

/-- A device's result at an index: windowed attention against the output weights. -/
theorem out_at (H : Holds m X0 X1 X2 X3 X4) (c : Fin 32) (Y : Vec Ideal S2x256x512 .f32) (hY : Out m c Y)
    (b : Fin 2) (r : Fin 256) (o : Fin 512) :
    Y (ix3 b r o) = ∑ x : Fin 256, head X0 X1 X2 X3 b ⟨x.val / 64, by omega⟩ (at' c r) ⟨x.val % 64, by omega⟩ * X4 (ix2 x o) := by
  obtain ⟨h, hh, g, rfl⟩ := hY
  match b with
  | 0 =>
    rw [rows_0, row0_at]
    exact Finset.sum_congr rfl fun x _ => congrArg₂ (fun x y : EReal => x * y) (quot_eq H c h hh _ _ _ _) (H.wo c x o)
  | 1 =>
    rw [rows_1, row1_at]
    exact Finset.sum_congr rfl fun x _ => congrArg₂ (fun x y : EReal => x * y) (quot_eq H c h hh _ _ _ _) (H.wo c x o)

/-- A position of the line is a row of a block. -/
theorem place_row (p : Fin 8192) : ∃ (c : Fin 32) (r : Fin 256), p = at' c r :=
  ⟨⟨p.val / 256, by omega⟩, ⟨p.val % 256, by omega⟩, Fin.ext (by show p.val = p.val / 256 * 256 + p.val % 256; omega)⟩

end Cert.KernelIdeal.Halo
end
-- ==== Proof.Value.Equal.lean ====
/-
The kernel's results are the blocks of the reference's result, from finite inputs.
-/
module

public import proofs.«01_k».proof.Defs
public import proofs.«01_k».proof.Proof.Value.Rows

@[expose] public section

set_option maxRecDepth 16384

noncomputable section

namespace Cert.Pre_finite_scores_KernelIdeal

/-- The shape relations of the precondition over one device's blocks. -/
theorem facts : Facts where
  bcast_S_S2x256x512 := by decide
  bcast_S_S512x256 := by decide
  bcast_S_S2x256x4x64 := by decide

end Cert.Pre_finite_scores_KernelIdeal

namespace Cert.Pre_finite_scores_ReferenceIdeal

/-- The shape relations of the precondition over the whole arrays. -/
theorem facts : Facts where
  bcast_S_S2x8192x512 := by decide
  bcast_S_S512x256 := by decide
  bcast_S_S2x8192x4x64 := by decide

end Cert.Pre_finite_scores_ReferenceIdeal

namespace Cert.Proof

open Cert.KernelIdeal.Halo
open Idealize.ShloMosaic Idealize.ShloMosaic.TcCoe
open Cert.Window
open Cert.ReferenceIdeal.At (head Real1 pos_inf result_at)

/-- A number whose absolute value is below plus infinity is a real number. -/
theorem real_of_abs (x : EReal) (h : Ideal.cmp .olt (max x (-x)) ⊤ = 1#1) : Real1 x := by
  have hlt : max x (-x) < ⊤ := by
    by_contra hn
    unfold Ideal.cmp at h
    simp only [decide_eq_false hn] at h
    exact absurd h (by decide)
  have h1 : x ≠ ⊤ := (lt_of_le_of_lt (le_max_left _ _) hlt).ne
  have h2 : x ≠ ⊥ := fun hb => by
    rw [hb] at hlt
    exact absurd (lt_of_le_of_lt (le_max_right _ _) hlt) (by simp)
  exact ⟨x.toReal, (EReal.coe_toReal h1 h2).symm⟩

variable {m : (ℓ : Loc Cert.KernelIdeal.nD Cert.KernelIdeal.τ Cert.KernelIdeal.sig) → Buf (Elt Ideal) ℓ}

/-- An element the precondition's bit admits. -/
theorem admitted {s : Shape} (x : FVec Ideal s .f32) (i : s.Idx) (h : FloatOps.cmpf .olt (FloatOps.hostAbsf (x i)) (Ideal.ofBits .f32 0x7F800000#32 : Ideal .f32) = 1#1) :
    Real1 (x i) := by
  rw [pos_inf] at h
  exact real_of_abs (x i) h

/-- The precondition makes the input, the query weights and the keys of every device real numbers. -/
theorem pre_real (hp : Cert.Pre_KernelIdeal_finite_scores_KernelIdeal (hPre_finite_scores_KernelIdeal := Cert.Pre_finite_scores_KernelIdeal.facts) m) (c : Fin 32) :
    (∀ i, Real1 (xAt m c i)) ∧ (∀ i, Real1 (wqAt m c i)) ∧ (∀ i, Real1 (kAt m c i)) :=
  ⟨fun i => admitted (xAt m c) i (congrFun (hp c).1 i), fun i => admitted (wqAt m c) i (congrFun (hp c).2.1 i),
    fun i => admitted (kAt m c) i (congrFun (hp c).2.2 i)⟩

variable {X0 : FVec Ideal Cert.ReferenceIdeal.S2x8192x512 .f32} {X1 : FVec Ideal Cert.KernelIdeal.S512x256 .f32}
variable {X2 X3 : FVec Ideal Cert.ReferenceIdeal.S2x8192x4x64 .f32} {X4 : FVec Ideal Cert.KernelIdeal.S256x512 .f32}

/-- Blocks along the second axis, read at an index: rank three, -/
theorem block3 {n₀ n₂ : ℕ} {α : Type} (X : Shape.Idx ⟨3, ![n₀, 8192, n₂]⟩ → α) (c : Fin 32)
    (t : Layout.Tiles ⟨3, ![n₀, 256, n₂]⟩ ⟨3, ![n₀, 8192, n₂]⟩ 1 32) (a : Fin n₀) (r : Fin 256) (k : Fin n₂) :
    Layout.block ⟨3, ![n₀, 256, n₂]⟩ ⟨3, ![n₀, 8192, n₂]⟩ 1 32 c X t (ix3 a r k) = X (ix3 a (at' c r) k) :=
  congrArg X (same3 _ _ rfl rfl rfl)
/-- rank four. -/
theorem block4 {n₀ n₂ n₃ : ℕ} {α : Type} (X : Shape.Idx ⟨4, ![n₀, 8192, n₂, n₃]⟩ → α) (c : Fin 32)
    (t : Layout.Tiles ⟨4, ![n₀, 256, n₂, n₃]⟩ ⟨4, ![n₀, 8192, n₂, n₃]⟩ 1 32) (a : Fin n₀) (r : Fin 256) (e : Fin n₂) (d : Fin n₃) :
    Layout.block ⟨4, ![n₀, 256, n₂, n₃]⟩ ⟨4, ![n₀, 8192, n₂, n₃]⟩ 1 32 c X t (ix4 a r e d) = X (ix4 a (at' c r) e d) :=
  congrArg X (Cert.ReferenceIdeal.At.idx4 _ _ rfl rfl rfl rfl)

/-- The whole arrays are real where the blocks are. -/
theorem whole_real (H : Holds m X0 X1 X2 X3 X4)
    (hp : Cert.Pre_KernelIdeal_finite_scores_KernelIdeal (hPre_finite_scores_KernelIdeal := Cert.Pre_finite_scores_KernelIdeal.facts) m) :
    (∀ i, Real1 (X0 i)) ∧ (∀ i, Real1 (X1 i)) ∧ (∀ i, Real1 (X2 i)) := by
  refine ⟨fun i => ?_, fun i => ?_, fun i => ?_⟩
  · obtain ⟨b, p, k, rfl⟩ := split3 i
    obtain ⟨c, r, rfl⟩ := place_row p
    rw [← H.x c]; exact (pre_real hp c).1 _
  · obtain ⟨k, l, rfl⟩ := split2 i
    rw [← H.wq 0]; exact (pre_real hp 0).2.1 _
  · obtain ⟨b, p, e, d, rfl⟩ := split4 i
    obtain ⟨c, r, rfl⟩ := place_row p
    rw [← H.k c]; exact (pre_real hp c).2.2 _

/-- A device's result is its block of the reference's result. -/
theorem out_block (H : Holds m X0 X1 X2 X3 X4)
    (hp : Cert.Pre_KernelIdeal_finite_scores_KernelIdeal (hPre_finite_scores_KernelIdeal := Cert.Pre_finite_scores_KernelIdeal.facts) m)
    (c : Fin 32) (Y : Vec Ideal Cert.KernelIdeal.S2x256x512 .f32) (hY : Out m c Y) :
    Y = Layout.block ⟨3, ![2, 256, 512]⟩ ⟨3, ![2, 8192, 512]⟩ 1 32 c (Cert.ReferenceIdeal.Read.val_main_v34 (F := Ideal) X0 X1 X2 X3 X4) := by
  funext i
  obtain ⟨b, r, o, rfl⟩ := split3 i
  obtain ⟨h0, h1, h2⟩ := whole_real H hp
  exact (out_at H c Y hY b r o).trans ((result_at X0 X1 X2 X3 X4 h0 h1 h2 b (at' c r) o).symm.trans
    (block3 (Cert.ReferenceIdeal.Read.val_main_v34 (F := Ideal) X0 X1 X2 X3 X4) c _ b r o).symm)

end Cert.Proof
end
-- ==== Proof.RunIdeal.Launch.lean ====
/-
The launch: what each device starts from, dealt out of one element of ghost state; and the run of the whole
program, for any values of the floats.
-/
module

public import proofs.«01_k».proof.Proof.RunIdeal.Body
public import proofs.«01_k».proof.Proof.Gen.KernelIdeal.Points
public import Idealize.ShloMosaic.Lib.Pipeline.CollectiveSegs
public import Idealize.ShloMosaic.Lib.Pipeline.Value
public import Idealize.ShloMosaic.Lib.Pipeline.ArrRel

@[expose] public section

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ### The one grid point -/

def Φ₀ (c : Dev nD) : sProp 𝕄 := iprop((∃ K, ghost m K c) ∗ credits c ∗ levAts L lv ∗ scratch c)
def Φ₁ (c : Dev nD) : sProp 𝕄 := iprop(counters (F := F) c ∗ scratch c)

/-- The pipeline's data on a device. What is known of the result's block is `Out`; the inputs' blocks are not
    written back, so nothing need be said of them. -/
def pd (_ : Fin 1) (c : Dev nD) : Pipeline.RDat τ (Elt F) Unit ℕ UU ℕ cfg0 c where
  A w := m ((cfg0.win w).arr.view.loc (c : Thread nD τ))
  after w _ := match w with
    | ⟨5, _⟩ => fun _ X => Out m c X
    | _ => fun _ _ => True
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ buf c b f) := by
  unfold owns buf; simp only [Memref.view_whole, View.read_whole, View.set_whole]

/-! Each input is fetched whole. -/

theorem fetched_0 (c : Dev nD) : ((cfg0.win (0 : Fin 6)).blk t0_0).view.read (Elt F) (m ((cfg0.win (0 : Fin 6)).arr.view.loc (c : Thread nD τ))) = xAt m c :=
  funext fun j => congrArg (xAt m c) (funext fun a => Fin.ext (Pipeline.Window.rect_emb_val_of_index_zero win0_0 t0_0 a rfl j))
theorem finds_0 (c : Dev nD) (X) (h : (pd m 0 c).Finds (0 : Fin 6) t0_0 X) : X = xAt m c := by
  obtain ⟨d, rfl⟩ := ((pd m 0 c).finds_of_fetch (fetch0_0 _) X).mp h
  exact Eq.trans rfl (fetched_0 m c)
theorem fetched_1 (c : Dev nD) : ((cfg0.win (1 : Fin 6)).blk t0_0).view.read (Elt F) (m ((cfg0.win (1 : Fin 6)).arr.view.loc (c : Thread nD τ))) = wqAt m c :=
  funext fun j => congrArg (wqAt m c) (funext fun a => Fin.ext (Pipeline.Window.rect_emb_val_of_index_zero win0_1 t0_0 a rfl j))
theorem finds_1 (c : Dev nD) (X) (h : (pd m 0 c).Finds (1 : Fin 6) t0_0 X) : X = wqAt m c := by
  obtain ⟨d, rfl⟩ := ((pd m 0 c).finds_of_fetch (fetch0_1 _) X).mp h
  exact Eq.trans rfl (fetched_1 m c)
theorem fetched_2 (c : Dev nD) : ((cfg0.win (2 : Fin 6)).blk t0_0).view.read (Elt F) (m ((cfg0.win (2 : Fin 6)).arr.view.loc (c : Thread nD τ))) = kAt m c :=
  funext fun j => congrArg (kAt m c) (funext fun a => Fin.ext (Pipeline.Window.rect_emb_val_of_index_zero win0_2 t0_0 a rfl j))
theorem finds_2 (c : Dev nD) (X) (h : (pd m 0 c).Finds (2 : Fin 6) t0_0 X) : X = kAt m c := by
  obtain ⟨d, rfl⟩ := ((pd m 0 c).finds_of_fetch (fetch0_2 _) X).mp h
  exact Eq.trans rfl (fetched_2 m c)
theorem fetched_3 (c : Dev nD) : ((cfg0.win (3 : Fin 6)).blk t0_0).view.read (Elt F) (m ((cfg0.win (3 : Fin 6)).arr.view.loc (c : Thread nD τ))) = vAt m c :=
  funext fun j => congrArg (vAt m c) (funext fun a => Fin.ext (Pipeline.Window.rect_emb_val_of_index_zero win0_3 t0_0 a rfl j))
theorem finds_3 (c : Dev nD) (X) (h : (pd m 0 c).Finds (3 : Fin 6) t0_0 X) : X = vAt m c := by
  obtain ⟨d, rfl⟩ := ((pd m 0 c).finds_of_fetch (fetch0_3 _) X).mp h
  exact Eq.trans rfl (fetched_3 m c)
theorem fetched_4 (c : Dev nD) : ((cfg0.win (4 : Fin 6)).blk t0_0).view.read (Elt F) (m ((cfg0.win (4 : Fin 6)).arr.view.loc (c : Thread nD τ))) = woAt m c :=
  funext fun j => congrArg (woAt m c) (funext fun a => Fin.ext (Pipeline.Window.rect_emb_val_of_index_zero win0_4 t0_0 a rfl j))
theorem finds_4 (c : Dev nD) (X) (h : (pd m 0 c).Finds (4 : Fin 6) t0_0 X) : X = woAt m c := by
  obtain ⟨d, rfl⟩ := ((pd m 0 c).finds_of_fetch (fetch0_4 _) X).mp h
  exact Eq.trans rfl (fetched_4 m c)

/-- What is handed back of an input's block. -/
theorem back (c : Dev nD) (b : Ref sig .tc) (X : b.ty.Contents (Elt F)) (P : b.ty.Contents (Elt F) → Prop) (hP : P X) :
    (buf c b X : sProp 𝕄) ⊢ iprop(∃ X', ⌜P X'⌝ ∗ ∃ f : Buf (Elt F) (((c : Dev nD) : Thread nD τ).loc b), ⌜f = X'⌝ ∗ buf c b f) := by
  iintro H
  iexists X
  isplitr; · ipureintro; exact hP
  iexists X
  isplitr; · ipureintro; rfl
  iexact H

set_option maxRecDepth 8000 in
theorem body_obligation (c : Dev nD) : (pd (F := F) m 0 c).BodyObligation (defs₀ (F := F)) 𝒱₀ () Set.univ := fun t Y hY => by
  obtain rfl : t = t0_0 := fin_N0 t
  have h0 := finds_0 m c _ (hY (0 : Fin 6))
  have h1 := finds_1 m c _ (hY (1 : Fin 6))
  have h2 := finds_2 m c _ (hY (2 : Fin 6))
  have h3 := finds_3 m c _ (hY (3 : Fin 6))
  have h4 := finds_4 m c _ (hY (4 : Fin 6))
  rw [bigSep_W0, bigSep_W0]
  rw [h0, h1, h2, h3, h4]
  generalize Y (5 : Fin 6) = y5
  clear h0 h1 h2 h3 h4 hY
  show iprop(Φ₀ m c ∗ (pd m 0 c).owesAt () t0_0.castSucc
      ∗ owns (c : Thread nD τ) (Memref.whole cc0_stg0_0) fullShare (near m c).x ∗ owns (c : Thread nD τ) (Memref.whole cc0_stg1_0) fullShare (near m c).wq
      ∗ owns (c : Thread nD τ) (Memref.whole cc0_stg2_0) fullShare (near m c).k ∗ owns (c : Thread nD τ) (Memref.whole cc0_stg3_0) fullShare (near m c).v
      ∗ owns (c : Thread nD τ) (Memref.whole cc0_stg4_0) fullShare (near m c).wo ∗ owns (c : Thread nD τ) (Memref.whole cc0_stg5_0) fullShare y5)
    ⊢ wp frame (wpE (defs₀ (F := F)) 𝒱₀ (c : Thread nD τ) none) Set.univ (bodyAt0 (F := F) t0_0) (fun _ =>
      iprop(Φ₁ c ∗ (pd m 0 c).owesAt () t0_0.succ
        ∗ (∃ X, ⌜True⌝ ∗ owns (c : Thread nD τ) (Memref.whole cc0_stg0_0) fullShare X) ∗ (∃ X, ⌜True⌝ ∗ owns (c : Thread nD τ) (Memref.whole cc0_stg1_0) fullShare X)
        ∗ (∃ X, ⌜True⌝ ∗ owns (c : Thread nD τ) (Memref.whole cc0_stg2_0) fullShare X) ∗ (∃ X, ⌜True⌝ ∗ owns (c : Thread nD τ) (Memref.whole cc0_stg3_0) fullShare X)
        ∗ (∃ X, ⌜True⌝ ∗ owns (c : Thread nD τ) (Memref.whole cc0_stg4_0) fullShare X) ∗ (∃ X, ⌜Out m c X⌝ ∗ owns (c : Thread nD τ) (Memref.whole cc0_stg5_0) fullShare X)))
  simp only [owns_buf]
  unfold Φ₀ Pipeline.RDat.owesAt Pipeline.owesWithin
  iintro ⟨⟨⟨%K, Hg⟩, Hc, Hl, Hs⟩, ⟨%W, -, HO⟩, ⟨%g0, %e0, I0⟩, ⟨%g1, %e1, I1⟩, ⟨%g2, %e2, I2⟩, ⟨%g3, %e3, I3⟩, ⟨%g4, %e4, I4⟩, ⟨%g5, %e5, I5⟩⟩
  subst e0 e1 e2 e3 e4
  iapply (body_wp m K c W _)
  unfold bodyPre bodyPost inputs Φ₁
  isplitl [Hg Hc Hl Hs HO I0 I1 I2 I3 I4 I5]
  · isplitl [Hg]; · iexact Hg
    isplitl [Hc]; · iexact Hc
    isplitl [Hl]; · iexact Hl
    isplitl [Hs]; · iexact Hs
    isplitl [HO]; · iexact HO
    isplitl [I0 I1 I2 I3 I4]
    · isplitl [I0]; · iexact I0
      isplitl [I1]; · iexact I1
      isplitl [I2]; · iexact I2
      isplitl [I3]; · iexact I3
      iexact I4
    iexists g5; iexact I5
  iintro ⟨Hc, Hs, ⟨%W', HO⟩, ⟨I0, I1, I2, I3, I4⟩, ⟨%X, %hX, I5⟩⟩
  isplitl [Hc Hs]
  · isplitl [Hc]; · iexact Hc
    iexact Hs
  isplitl [HO]
  · iexists W'
    isplitr; · ipureintro; exact fun _ _ => Or.inl trivial
    iexact HO
  isplitl [I0]; · iapply (back c cc0_stg0_0 _ (fun _ => True) trivial); iexact I0
  isplitl [I1]; · iapply (back c cc0_stg1_0 _ (fun _ => True) trivial); iexact I1
  isplitl [I2]; · iapply (back c cc0_stg2_0 _ (fun _ => True) trivial); iexact I2
  isplitl [I3]; · iapply (back c cc0_stg3_0 _ (fun _ => True) trivial); iexact I3
  isplitl [I4]; · iapply (back c cc0_stg4_0 _ (fun _ => True) trivial); iexact I4
  iapply (back c cc0_stg5_0 X (Out m c) hX); iexact I5

/-! ### Cells and tokens minted -/

theorem ownSemFacts : Pipeline.OwnSemFacts cfg0.spec osem := by decide

theorem share_eq (c : Dev nD) (w : Fin cfg0.W) : (pd m 0 c).share w = fullShare := by unfold Pipeline.RDat.share; split <;> rfl

theorem csem_injective : Function.Injective csem := by
  intro k k' h
  fin_cases k <;> fin_cases k' <;> first | rfl | exact absurd h (by decide)

theorem kcell_injective : Function.Injective (kcell : Dev nD × Fin 5 → GSem nD τ sig) := fun ⟨c, k⟩ ⟨c', k'⟩ h => by
  have h1 : c = c' := congrArg (fun g : GSem nD τ sig => g.1.1) h
  have h2 : k = k' := csem_injective (congrArg Prod.snd h)
  rw [h1, h2]
def lineCells : Finset (GSem nD τ sig) := Finset.univ.map ⟨kcell, kcell_injective⟩

/-- The tokens minted on a device's own cells: two on its barrier's, one on each of the others. Those of duties the
    ends of the line do not have are minted and left unused. -/
abbrev tokKey : Fin 6 → SemLoc sig × Bool := fun
  | 0 => (.reg barS, false) | 1 => (.reg barS, true) | 2 => (.dma rcv0, false) | 3 => (.dma rcv1, false) | 4 => (.dma snd0, false) | 5 => (.dma snd1, false)
abbrev tokOf (cj : Dev nD × Fin 6) : GSem nD τ sig × ℕ × Bool := (((cj.1 : Thread nD τ), (tokKey cj.2).1), 0, (tokKey cj.2).2)
theorem tokKey_injective : Function.Injective tokKey := by
  intro k k' h
  fin_cases k <;> fin_cases k' <;> first | rfl | exact absurd h (by decide)
theorem tokOf_injective : Function.Injective (tokOf : Dev nD × Fin 6 → GSem nD τ sig × ℕ × Bool) := fun ⟨c, j⟩ ⟨c', j'⟩ h => by
  have h1 : c = c' := congrArg (fun x : GSem nD τ sig × ℕ × Bool => x.1.1.1) h
  have h2 : j = j' := tokKey_injective (congrArg (fun x : GSem nD τ sig × ℕ × Bool => (x.1.2, x.2.2)) h)
  rw [h1, h2]
def lineToks : Finset (GSem nD τ sig × ℕ × Bool) := Finset.univ.map ⟨tokOf, tokOf_injective⟩

def u₀ : UU :=
  (initOf (Pipeline.cells cfgs cellOf_inj) (Pipeline.launchToks cfgs cellOf_inj), initOf lineCells lineToks)

/-- The tokens of the duties on device `c`'s cells; -/
def toks (c : Dev nD) : sProp 𝕄 :=
  iprop(dutyTok ER (barCell c) 0 false ∗ dutyTok ER (barCell c) 0 true ∗ dutyTok ER (rcv0Cell c) 0 false ∗ dutyTok ER (rcv1Cell c) 0 false
    ∗ dutyTok ER (snd0Cell c) 0 false ∗ dutyTok ER (snd1Cell c) 0 false)
/-- and those of the duties device `c` does. -/
def payToks (c : Dev nD) : sProp 𝕄 :=
  iprop(dutyTok ER (barCell (nxt c)) 0 false ∗ dutyTok ER (barCell (prv c)) 0 true ∗ dutyTok ER (rcv0Cell (nxt c)) 0 false ∗ dutyTok ER (rcv1Cell (prv c)) 0 false
    ∗ dutyTok ER (snd0Cell c) 0 false ∗ dutyTok ER (snd1Cell c) 0 false)

def G (c : Dev nD) : sProp 𝕄 :=
  iprop((bigSep Finset.univ fun k : Fin 5 => roundState ER (rd m) (kcell (c, k)) 0)
    ∗ (bigSep Finset.univ fun k : Fin 5 => iprop(atPos ER (kcell (c, k)) 0 ∅ 0 ∗ reached ER (kcell (c, k)) 0)) ∗ toks c)
def G' (c : Dev nD) : sProp 𝕄 := iprop(∃ K, ghost m K c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem over_cells (Φ : GSem nD τ sig → sProp 𝕄) :
    bigSep lineCells Φ = bigSep Finset.univ fun c : Dev nD => bigSep Finset.univ fun k : Fin 5 => Φ (kcell (c, k)) := by
  unfold lineCells; rw [bigSep_map, bigSep_univ_prod]; rfl
theorem over_toks : bigSep lineToks (fun x => (dutyTok ER x.1 x.2.1 x.2.2 : sProp 𝕄)) = bigSep Finset.univ fun c : Dev nD => toks c := by
  unfold lineToks; rw [bigSep_map, bigSep_univ_prod]
  exact bigSep_congr fun c _ => by unfold toks; rw [bigSep_fin6]; rfl

theorem mint : BI.own (ER (initOf lineCells lineToks)) ⊢ (|==> bigSep Finset.univ (G m) : sProp 𝕄) := by
  iintro H
  imod (Rounds.fund ER (rd m) lineCells lineToks) $$ H with ⟨Hs, Hr, Ha, Ht⟩
  imodintro
  ihave Hs := (Entails.of_eq (over_cells fun g => roundState ER (rd m) g 0)) $$ Hs
  ihave Ha := (Entails.of_eq (over_cells fun g => atPos ER g 0 ∅ 0)) $$ Ha
  ihave Hr := (Entails.of_eq (over_cells fun g => reached ER g 0)) $$ Hr
  ihave Ht := (Entails.of_eq over_toks) $$ Ht
  unfold G; simp only [bigSep_sep']
  isplitl [Hs]; · iexact Hs
  isplitl [Ha Hr]
  · isplitl [Ha] <;> iassumption
  iexact Ht

/-! ### The counters -/

theorem ownSems0_eq (c : Dev nD) : (Pipeline.ownSems0 (Ix := Unit) (Name := ℕ) (U := UU) (Lvl := ℕ) (Val := Elt F) (τ := τ) osem c : sProp 𝕄)
    = iprop(semVal (snd0Cell c) 0 ∗ semVal (snd1Cell c) 0 ∗ semVal (rcv0Cell c) 0 ∗ semVal (rcv1Cell c) 0) := by
  rw [Pipeline.ownSems0_eq_of_list c osem [0, 1, 2, 3] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All five counters of a device at zero are its own four and its barrier's. -/
theorem counters_split (c : Dev nD) :
    counters c ⊣⊢ (iprop(unscopedSems0 c ∗ Pipeline.ownSems0 (Ix := Unit) (Name := ℕ) (U := UU) (Lvl := ℕ) (Val := Elt F) (τ := τ) osem c) : sProp 𝕄) := by
  rw [ownSems0_eq, unscopedSems0_eq]; exact ⟨Entails.refl _, Entails.refl _⟩
theorem counters_cells (c : Dev nD) : (counters c : sProp 𝕄) = bigSep Finset.univ fun k : Fin 5 => semVal (kcell (c, k)) 0 := by
  rw [bigSep_fin5]; rfl

/-! ### From counters and minted state to what each device starts with -/

/-- A device's cells get their invariants. -/
theorem make_invs (c : Dev nD) :
    iprop(counters c ∗ bigSep Finset.univ fun k : Fin 5 => roundState ER (rd m) (kcell (c, k)) 0)
      ⊢ (|={Set.univ}=> bigSep Finset.univ fun k => iprop(∃ κ : ℕ, cellInv ER (rd m) κ (kcell (c, k))) : sProp 𝕄) := by
  rw [counters_cells, ← bigSep_sep']
  exact (bigSep_mono fun k _ => (Rounds.body_intro ER (rd m) (kcell (c, k))).trans inv_alloc).trans (bigSep_fupd _ _)

theorem device_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Ho, Hu, Hs, Hp, Ht⟩
  ihave Hc := (counters_split (F := F) c).2 $$ [Ho Hu]
  · isplitl [Hu] <;> iassumption
  imod (make_invs m c) $$ [Hc Hs] with HI
  · isplitl [Hc] <;> iassumption
  imodintro
  isplitl [HI]; · iexact HI
  isplitl [Hp]; · iexact Hp
  iexact Ht

/-- What all devices know of all cells. -/
def known (K : Dev nD × Fin 5 → ℕ) : sProp 𝕄 :=
  iprop((bigSep Finset.univ fun ck : Dev nD × Fin 5 => cellInv ER (rd m) (K ck) (kcell ck))
    ∗ bigSep Finset.univ fun ck : Dev nD × Fin 5 => reached ER (kcell ck) 0)
instance known_persistent (K : Dev nD × Fin 5 → ℕ) : BI.Persistent (known m K) := by unfold known; infer_instance

theorem keep_left (P Q : sProp 𝕄) : iprop(P ∗ Q) ⊢ P := by iintro ⟨H, -⟩; iexact H
theorem keep_right (P Q : sProp 𝕄) : iprop(P ∗ Q) ⊢ Q := by iintro ⟨-, H⟩; iexact H

theorem inv_of (K : Dev nD × Fin 5 → ℕ) (ck : Dev nD × Fin 5) : known m K ⊢ cellInv ER (rd m) (K ck) (kcell ck) := by
  unfold known
  exact (keep_left _ _).trans (bigSep_elim (Φ := fun ck : Dev nD × Fin 5 => (cellInv ER (rd m) (K ck) (kcell ck) : sProp 𝕄)) (Finset.mem_univ ck))
theorem reached_of (K : Dev nD × Fin 5 → ℕ) (ck : Dev nD × Fin 5) : known m K ⊢ reached ER (kcell ck) 0 := by
  unfold known
  exact (keep_right _ _).trans (bigSep_elim (Φ := fun ck : Dev nD × Fin 5 => (reached ER (kcell ck) 0 : sProp 𝕄)) (Finset.mem_univ ck))

def positions (c : Dev nD) : sProp 𝕄 :=
  iprop(atPos ER (barCell c) 0 ∅ 0 ∗ atPos ER (snd0Cell c) 0 ∅ 0 ∗ atPos ER (snd1Cell c) 0 ∅ 0 ∗ atPos ER (rcv0Cell c) 0 ∅ 0 ∗ atPos ER (rcv1Cell c) 0 ∅ 0)

theorem ghost_intro (K : Dev nD × Fin 5 → ℕ) (c : Dev nD) : iprop(known m K ∗ positions c ∗ payToks c) ⊢ G' m c := by
  unfold G' ghost invs
  iintro ⟨#H, HP, HT⟩
  iexists K
  isplitr
  · isplitr; · iapply (inv_of m K (c, 0)); iexact H
    isplitr; · iapply (inv_of m K (c, 1)); iexact H
    isplitr; · iapply (inv_of m K (c, 2)); iexact H
    isplitr; · iapply (inv_of m K (c, 3)); iexact H
    isplitr; · iapply (inv_of m K (c, 4)); iexact H
    isplitr; · iapply (inv_of m K (nxt c, 0)); iexact H
    isplitr; · iapply (inv_of m K (prv c, 0)); iexact H
    isplitr; · iapply (inv_of m K (nxt c, 3)); iexact H
    iapply (inv_of m K (prv c, 4)); iexact H
  isplitl [HP]; · unfold positions; iexact HP
  isplitr
  · isplitr; · iapply (reached_of m K (nxt c, 0)); iexact H
    isplitr; · iapply (reached_of m K (prv c, 0)); iexact H
    isplitr; · iapply (reached_of m K (nxt c, 3)); iexact H
    isplitr; · iapply (reached_of m K (prv c, 4)); iexact H
    isplitr; · iapply (reached_of m K (c, 1)); iexact H
    iapply (reached_of m K (c, 2)); iexact H
  unfold payToks; iexact HT

/-- Tokens go to the device that does the duty: one place down the line, one place up, or nowhere. -/
theorem toks_dealt : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (rcv0Cell c) 0 false : sProp 𝕄)),
    bigSep_univ_equiv ring.symm (fun c : Dev nD => (dutyTok ER (rcv1Cell c) 0 false : sProp 𝕄))]
  exact Entails.refl _

theorem deal (K : Dev nD × Fin 5 → ℕ) :
    iprop(known m K ∗ (bigSep Finset.univ fun c : Dev nD => (positions c : sProp 𝕄)) ∗ bigSep Finset.univ fun c : Dev nD => payToks c)
      ⊢ bigSep Finset.univ (G' m) := by
  rw [← bigSep_sep']
  refine (sep_mono_left (BI.bigSep_of_persistent (Finset.univ : Finset (Dev nD)) (known m K))).trans ?_
  rw [← bigSep_sep']
  exact bigSep_mono fun c _ => ghost_intro m K c

theorem over_positions : (bigSep Finset.univ fun c : Dev nD => bigSep Finset.univ fun k : Fin 5 => (atPos ER (kcell (c, k)) 0 ∅ 0 : sProp 𝕄))
    = bigSep Finset.univ fun c : Dev nD => positions c :=
  bigSep_congr fun c _ => by unfold positions; rw [bigSep_fin5]

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (rd m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Ha, #HR⟩, Ht⟩
  ihave HK := (BI.bigSep_exists_pi Finset.univ (fun (ck : Dev nD × Fin 5) (κ : ℕ) => (cellInv ER (rd m) κ (kcell ck) : sProp 𝕄))) $$ HI
  icases HK with ⟨%K, #HI⟩
  ihave Ht := (toks_dealt (F := F)) $$ Ht
  iapply (deal m K)
  isplitr
  · unfold known; isplitl; · iexact HI
    iexact HR
  isplitl [Ha]
  · iapply (Entails.of_eq (over_positions (F := F))); iexact Ha
  iexact Ht

theorem start_all : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => device_alloc m c).trans (bigSep_fupd _ _)).trans (BI.fupd_mono (regroup m))

/-! ### Credit: what the others owe a device's cells -/

theorem cell_dev {sm sm' : SemLoc sig} {a b : Dev nD} (h : (((a : Thread nD τ), sm) : GSem nD τ sig) = ((b : Thread nD τ), sm')) : a = b ∧ sm = sm' :=
  ⟨congrArg (fun g : GSem nD τ sig => g.1.1) h, congrArg Prod.snd h⟩

/-- A guarded debt to one cell, read at another. -/
theorem owed_at {p : Prop} [Decidable p] (a c : Dev nD) (sm sm' : SemLoc sig) (k : ℕ) :
    (if p then (tallyAt (((a : Thread nD τ), sm) : GSem nD τ sig) () k : CellTallies nD τ sig Unit) else 0) ((c : Thread nD τ), sm') () = if (p ∧ sm = sm') ∧ a = c then k else 0 := by
  by_cases hp : p
  · rw [if_pos hp, tallyAt_apply]
    by_cases h : sm = sm' ∧ a = c
    · rw [if_pos ⟨by rw [h.1, h.2], rfl⟩, if_pos ⟨⟨hp, h.1⟩, h.2⟩]
    · rw [if_neg fun h' => h ⟨(cell_dev h'.1).2.symm, (cell_dev h'.1).1.symm⟩, if_neg fun h' => h ⟨h'.1.2, h'.2⟩]
  · rw [if_neg hp, if_neg fun h' => hp h'.1.1]; rfl

theorem from_prv {p : Dev nD → Prop} [DecidablePred p] (c : Dev nD) (q : Prop) [Decidable q] (k : ℕ) :
    (∑ d : Dev nD, if (p d ∧ q) ∧ nxt d = c then k else 0) = if p (prv c) ∧ q then k else 0 := by
  rw [Finset.sum_eq_single (prv c)]
  · rw [nxt_prv]; simp
  · intro d _ hd; rw [if_neg]; rintro ⟨-, rfl⟩; exact hd (prv_nxt d).symm
  · intro h; exact absurd (Finset.mem_univ _) h
theorem from_nxt {p : Dev nD → Prop} [DecidablePred p] (c : Dev nD) (q : Prop) [Decidable q] (k : ℕ) :
    (∑ d : Dev nD, if (p d ∧ q) ∧ prv d = c then k else 0) = if p (nxt c) ∧ q then k else 0 := by
  rw [Finset.sum_eq_single (nxt c)]
  · rw [prv_nxt]; simp
  · intro d _ hd; rw [if_neg]; rintro ⟨-, rfl⟩; exact hd (nxt_prv d).symm
  · intro h; exact absurd (Finset.mem_univ _) h

theorem hasR_prv_iff (c : Dev nD) : hasR (prv c) ↔ hasL c := ⟨hasL_of_hasR_prv, hasR_prv⟩
theorem hasL_nxt_iff (c : Dev nD) : hasL (nxt c) ↔ hasR c := ⟨hasR_of_hasL_nxt, hasL_nxt⟩

/-- All that is owed to a cell of device `c`. -/
theorem owed_sum (c : Dev nD) (sm : SemLoc sig) :
    (∑ d : Dev nD, O₀ d ((c : Thread nD τ), sm) ()) = (if hasR c ∧ SemLoc.dma rcv1 = sm then N else 0) + (if hasL c ∧ SemLoc.dma rcv0 = sm then N else 0)
      + (if hasL c ∧ SemLoc.reg barS = sm then 1 else 0) + (if hasR c ∧ SemLoc.reg barS = sm then 1 else 0) := by
  have h (d : Dev nD) : O₀ d ((c : Thread nD τ), sm) () = (if (hasL d ∧ SemLoc.dma rcv1 = sm) ∧ prv d = c then N else 0) + (if (hasR d ∧ SemLoc.dma rcv0 = sm) ∧ nxt d = c then N else 0)
      + (if (hasR d ∧ SemLoc.reg barS = sm) ∧ nxt d = c then 1 else 0) + (if (hasL d ∧ SemLoc.reg barS = sm) ∧ prv d = c then 1 else 0) := by
    unfold O₀ O₁ owedA owedB owedC owedD
    rw [Pi.add_apply, Finsupp.add_apply, Pi.add_apply, Finsupp.add_apply, Pi.add_apply, Finsupp.add_apply, owed_at, owed_at, owed_at, owed_at]
  rw [Finset.sum_congr rfl fun d _ => h d, Finset.sum_add_distrib, Finset.sum_add_distrib, Finset.sum_add_distrib,
    from_nxt (p := fun d => hasL d) c _ N, from_prv (p := fun d => hasR d) c _ N, from_prv (p := fun d => hasR d) c _ 1, from_nxt (p := fun d => hasL d) c _ 1]
  simp only [hasR_prv_iff, hasL_nxt_iff]

theorem credit_at (c : Dev nD) (sm : SemLoc sig) (k : ℕ) (h : (∑ d : Dev nD, O₀ d ((c : Thread nD τ), sm) ()) = k) :
    tallyOn ((c : Thread nD τ), sm) (launchCredit (Pipeline.owing O₀) 0 ((c : Thread nD τ), sm)) = (tallyAt ((c : Thread nD τ), sm) () k : CellTallies nD τ sig Unit) := by
  unfold tallyAt; refine congrArg _ (Finsupp.ext fun u => ?_); cases u
  rw [Pipeline.launchCredit_owing, Finsupp.single_eq_same, ← h]

theorem credit_bar (c : Dev nD) : (∑ d : Dev nD, O₀ d (barCell c) ()) = (if hasL c then 1 else 0) + if hasR c then 1 else 0 := by
  rw [owed_sum, if_neg fun h => bar_ne _ h.2, if_neg fun h => bar_ne _ h.2]; simp
theorem credit_rcv0 (c : Dev nD) : (∑ d : Dev nD, O₀ d (rcv0Cell c) ()) = if hasL c then N else 0 := by
  rw [owed_sum, if_neg fun h => rcv0_ne_rcv1 h.2.symm, if_neg (c := hasL c ∧ SemLoc.reg barS = _) fun h => bar_ne _ h.2.symm,
    if_neg (c := hasR c ∧ SemLoc.reg barS = _) fun h => bar_ne _ h.2.symm]; simp
theorem credit_rcv1 (c : Dev nD) : (∑ d : Dev nD, O₀ d (rcv1Cell c) ()) = if hasR c then N else 0 := by
  rw [owed_sum, if_neg (c := hasL c ∧ SemLoc.dma rcv0 = _) fun h => rcv0_ne_rcv1 h.2, if_neg (c := hasL c ∧ SemLoc.reg barS = _) fun h => bar_ne _ h.2.symm,
    if_neg (c := hasR c ∧ SemLoc.reg barS = _) fun h => bar_ne _ h.2.symm]; simp

theorem take {I : Type} [DecidableEq I] {s : Finset I} {i : I} (hi : i ∈ s) (Φ : I → sProp 𝕄) : bigSep s Φ = iprop(Φ i ∗ bigSep (s.erase i) Φ) :=
  BI.bigSep_erase hi

theorem creds (c : Dev nD) : (Pipeline.launchCred O₀ c : sProp 𝕄) ⊢ credits c := by
  have e0 : SemLoc.dma rcv0 ∈ (Finset.univ : Finset (SemLoc sig)).erase (SemLoc.reg barS) := Finset.mem_erase.mpr ⟨bar_ne _, Finset.mem_univ _⟩
  have e1 : SemLoc.dma rcv1 ∈ ((Finset.univ : Finset (SemLoc sig)).erase (SemLoc.reg barS)).erase (SemLoc.dma rcv0) :=
    Finset.mem_erase.mpr ⟨rcv0_ne_rcv1.symm, Finset.mem_erase.mpr ⟨bar_ne _, Finset.mem_univ _⟩⟩
  unfold Pipeline.launchCred credits
  rw [bigSep_univ_at _ (SemLoc.reg barS), credit_at c _ _ (credit_bar c), ← tallyAt_add, take e0, credit_at c _ _ (credit_rcv0 c),
    take e1, credit_at c _ _ (credit_rcv1 c)]
  refine (sep_mono_left (cred_add _ _).1).trans ?_
  iintro ⟨⟨H1, H2⟩, H3, H4, -⟩
  isplitl [H1]; · iexact H1
  isplitl [H2]; · iexact H2
  isplitl [H3]; · iexact H3
  iexact H4

/-! ### In and out of the region, and the run -/

/-- What a device holds at the start, scratch apart. -/
def start (c : Dev nD) : sProp 𝕄 := iprop((∃ K, ghost m K c) ∗ credits c ∗ levAts L lv)

variable (ρ : Dev nD → PrngReg)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, Hl, Hc, -, Hg⟩
  ihave Hc := (creds (F := F) c) $$ Hc
  imodintro
  isplitl
  · isplitl [Hg]; · iexact Hg
    isplitl [Hc]; · iexact Hc
    iexact Hl
  · iempintro

theorem enter (c : Dev nD) :
    iprop(start m c ∗ Pipeline.prefHeld Pipeline.Prefetch.none c (fun _ => fullShare.right) (fun k => k.elim0) ∗ Pipeline.scopedRest cfg0.spec c)
      ⊢ (pd m 0 c).Φ 0 := by
  rw [show (pd m 0 c).Φ 0 = Φ₀ m c from rfl, scopedRest0_eq]
  unfold Φ₀ start scratch
  iintro ⟨⟨Hg, Hc, Hl⟩, -, Hs⟩
  isplitl [Hg]; · iexact Hg
  isplitl [Hc]; · iexact Hc
  isplitl [Hl]; · iexact Hl
  iexact Hs

theorem leave (c : Dev nD) :
    (pd m 0 c).Φ (Fin.last cfg0.N) ⊢ iprop(unscopedSems0 c ∗ Pipeline.ownSems0 osem c ∗ Pipeline.scopedRest cfg0.spec c) := by
  rw [show (pd m 0 c).Φ (Fin.last cfg0.N) = Φ₁ c from rfl, scopedRest0_eq]
  unfold Φ₁ scratch
  iintro ⟨Hc, Hs⟩
  ihave Hc := (counters_split (F := F) c).1 $$ Hc
  icases Hc with ⟨Hb, Ho⟩
  isplitl [Hb]; · iexact Hb
  isplitl [Ho]; · iexact Ho
  iexact Hs

theorem waits (c : Dev nD) : (levAts L lv : sProp 𝕄) ⊢ Pipeline.RDat.cellsWaits cfgs (pd m) () 0 c :=
  Pipeline.RDat.cellsWaits_intro cfgs (pd m) () 0 c fun w s t =>
    mayWait_stage c _ (by fin_cases w <;> fin_cases s <;> decide) _ (by
      rcases t with ⟨_ | _, ht⟩
      · exact Or.inl rfl
      · exact Or.inr rfl)

def s₀ : MemSt nD τ sig (Elt F) := ⟨m, fun _ => 0, ρ⟩

set_option maxRecDepth 8000 in
/-- From any memory with zero counters the program runs to its end on every device, whatever the scheduling; every
    windowed array then holds what the pipeline's data say it may, and every counter is zero. -/
theorem run_arrays : θ_run defs (onTc (τ := τ) (main (F := F))) (s₀ m ρ)
    (fun r => (∀ c : Dev nD, ∀ w : Fin cfg0.W, (pd m 0 c).ArrAt w cfg0.N (r.2.mem ((cfg0.win w).arr.view.loc (c : Thread nD τ)))) ∧ r.2.sem = fun _ => 0) :=
  Pipeline.RDat.θ_run_region_owing_glob_pf (fun p => (cfgs p).toPCfg) (fun p => (cfgs p).toPCfg_adm) (pd m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := start_all m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- What a device's arrays hold at the end: its inputs what they held, its result what the body may leave. -/
def Final (c : Dev nD) (mem : (ℓ : Loc nD τ sig) → Buf (Elt F) ℓ) : Prop :=
  Out m c (mem ((c : Thread nD τ).loc main_v1))
    ∧ mem ((c : Thread nD τ).loc main_arg0) = m ((c : Thread nD τ).loc main_arg0)
    ∧ mem ((c : Thread nD τ).loc main_arg1) = m ((c : Thread nD τ).loc main_arg1)
    ∧ mem ((c : Thread nD τ).loc main_arg2) = m ((c : Thread nD τ).loc main_arg2)
    ∧ mem ((c : Thread nD τ).loc main_arg3) = m ((c : Thread nD τ).loc main_arg3)
    ∧ mem ((c : Thread nD τ).loc main_arg4) = m ((c : Thread nD τ).loc main_arg4)

theorem final_result (c : Dev nD) (Y : Vec F S2x256x512 .f32) (h : (pd m 0 c).ArrAt (5 : Fin 6) cfg0.N Y) : Out m c Y := by
  obtain ⟨X, ⟨Z, -, hX⟩, hY⟩ := Pipeline.RDat.ArrAt.emb_eq_of_wholeAt h (t₀ := t0_0) (by decide +kernel)
  have : Y = X := funext fun j => hY j
  rw [this]; exact hX

theorem final_of (c : Dev nD) (mem : (ℓ : Loc nD τ sig) → Buf (Elt F) ℓ)
    (h : ∀ w : Fin cfg0.W, (pd m 0 c).ArrAt w cfg0.N (mem ((cfg0.win w).arr.view.loc (c : Thread nD τ)))) : Final m c mem :=
  ⟨final_result m c _ (h (5 : Fin 6)),
    (congrFun ((pd m 0 c).ArrAt_in (0 : Fin 6) rfl _) _).mp (h (0 : Fin 6)), (congrFun ((pd m 0 c).ArrAt_in (1 : Fin 6) rfl _) _).mp (h (1 : Fin 6)),
    (congrFun ((pd m 0 c).ArrAt_in (2 : Fin 6) rfl _) _).mp (h (2 : Fin 6)), (congrFun ((pd m 0 c).ArrAt_in (3 : Fin 6) rfl _) _).mp (h (3 : Fin 6)),
    (congrFun ((pd m 0 c).ArrAt_in (4 : Fin 6) rfl _) _).mp (h (4 : Fin 6))⟩

/-- The run, at any memory with zero counters. -/
theorem run_main : θ_run defs (onTc (τ := τ) (main (F := F))) ⟨m, fun _ => 0, ρ⟩
    (fun r => (∀ c : Dev nD, Final m c r.2.mem) ∧ r.2.sem = fun _ => 0) :=
  (θ_run defs _ _).mono (fun r h => ⟨fun c => final_of m c _ (h.1 c), h.2⟩) (run_arrays m ρ)

end Cert.KernelIdeal.Halo

end
-- ==== Proof.lean ====
/-
The claims, put together.
-/
module

public import proofs.«01_k».proof.Defs
public import proofs.«01_k».proof.Proof.Gen.ReferenceIdeal.Run
public import proofs.«01_k».proof.Proof.Value.Equal
public import proofs.«01_k».proof.Proof.RunPrinted.Launch
public import proofs.«01_k».proof.Proof.RunIdeal.Launch
public import Idealize.ShloMosaic.Adequacy
public import Idealize.ShloMosaic.Init

@[expose] public section

noncomputable section

namespace Cert.Proof

open Idealize.ShloMosaic Idealize.SL.Sem

/-- The kernel as printed runs, leaves its arguments as they were and every counter at zero. -/
theorem frame_printed : Cert.quiescent_Kernel (hKernel := Cert.Kernel.Gen.facts) := fun m ρ _ =>
  (θ_run _ _ _).mono (fun _ h => ⟨fun c => (h.1 c).2, h.2⟩) (Cert.Kernel.Halo.run_main (F := Bits) m ρ)

/-- So does its ideal reading, -/
theorem frame_ideal : Cert.quiescent_KernelIdeal (hKernelIdeal := Cert.KernelIdeal.Gen.facts) := fun m ρ _ =>
  (θ_run _ _ _).mono (fun _ h => ⟨fun c => (h.1 c).2, h.2⟩) (Cert.KernelIdeal.Halo.run_main (F := Ideal) m ρ)

/-- and so does the reference. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run (F := Ideal) m ρ)

/-- The named constant is read as the value it stands for. -/
theorem mask_named : Cert.preserves_Kernel_KernelIdeal :=
  IdealRules.named_const.statement Cert.KernelIdeal.κ "mask" .f32 0xCE6E6B28#32 ⊥ rfl

/-- From finite inputs the kernel computes, on every device, its block of what the reference computes. -/
theorem kernel_computes : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := Cert.Pre_finite_scores_KernelIdeal.facts) := by
  intro m g m' g' hp hargs
  have H : Cert.KernelIdeal.Halo.Holds m _ _ _ _ _ := {
    x := fun c b r k => (congrFun (hargs c).1 _).trans (block3 _ c _ b r k)
    wq := fun c k l => congrFun (hargs c).2.1 _
    k := fun c b r e d => (congrFun (hargs c).2.2.1 _).trans (block4 _ c _ b r e d)
    v := fun c b r e d => (congrFun (hargs c).2.2.2.1 _).trans (block4 _ c _ b r e d)
    wo := fun c k l => congrFun (hargs c).2.2.2.2 _ }
  refine ⟨Cert.ReferenceIdeal.Value.res_main_v34 m' 0, ?_, ?_⟩
  · refine (θ_run _ _ _).mono (fun r h c => ⟨?_, (h.1 c).2⟩) (Cert.KernelIdeal.Halo.run_main (F := Ideal) m g)
    rw [Cert.ReferenceIdeal.Read.val_main_v34_eq]
    exact out_block H hp c _ (h.1 c).1
  · exact (θ_run _ _ _).mono (fun r h => h 0) (Cert.ReferenceIdeal.Value.run (F := Ideal) m' g')

/-- All the claims. -/
theorem claim : Cert.Claim :=
  ⟨Cert.Kernel.Gen.facts, Cert.KernelIdeal.Gen.facts, Cert.ReferenceIdeal.Gen.facts, Cert.Pre_finite_scores_KernelIdeal.facts,
    Cert.Pre_finite_scores_ReferenceIdeal.facts, frame_printed, frame_ideal, fun m g _ => frame_ideal m g trivial, frame_reference,
    fun m g _ => frame_reference m g trivial, mask_named, kernel_computes⟩

end Cert.Proof

end
